-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1024x8192 : Shape := ⟨2, ![1024, 8192]⟩
abbrev S3x1024x1024 : Shape := ⟨3, ![3, 1024, 1024]⟩
abbrev S2x1024x1024 : Shape := ⟨3, ![2, 1024, 1024]⟩
abbrev S4x8x128 : Shape := ⟨3, ![4, 8, 128]⟩
abbrev S3 : Shape := ⟨1, ![3]⟩
abbrev S4 : Shape := ⟨1, ![4]⟩
abbrev S2 : Shape := ⟨1, ![2]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .f32⟩
  | .hbm, ⟨2, _⟩ => ⟨S1024x8192, .f32⟩
  | .local _ .vmem, ⟨0, _⟩ => ⟨S4096x1024, .bf16⟩
  | .local _ .vmem, ⟨1, _⟩ => ⟨S1024x8192, .f32⟩
  | .local _ .vmem, ⟨2, _⟩ => ⟨S3x1024x1024, .bf16⟩
  | .local _ .vmem, ⟨3, _⟩ => ⟨S2x1024x1024, .f32⟩
  | .local _ .vmem, ⟨4, _⟩ => ⟨S4x8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32 : BitVec 32 := 1024#32
  let v54 : BitVec 32 := Scalar.muli v53 c1024_i32
  let c0_i32_42 : BitVec 32 := 0#32
  ![v54.toNat, 0]
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_38 : BitVec 32 := 1#32
  let v55 : BitVec 32 := Scalar.muli v53 c1_i32_38
  let v56 : BitVec 32 := Scalar.addi c0_i32_39 v55
  v56.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v64 : BitVec 32 := Scalar.addi v2 c2_i32_43
  let c4_i32_44 : BitVec 32 := 4#32
  let c0_i32_45 : BitVec 32 := 0#32
  let v65 : BitVec 1 := Scalar.cmpi .eq c4_i32_44 c0_i32_45
  let c1_i32_46 : BitVec 32 := 1#32
  let v66 : BitVec 32 := Scalar.select v65 c1_i32_46 c4_i32_44
  let v67 : BitVec 32 := Scalar.remsi v64 v66
  let c0_i32_48 : BitVec 32 := 0#32
  let v69 : BitVec 1 := Scalar.cmpi .slt v67 c0_i32_48
  let c0_i32_49 : BitVec 32 := 0#32
  let v70 : BitVec 1 := Scalar.cmpi .slt v66 c0_i32_49
  let v71 : BitVec 1 := Scalar.xori v69 v70
  let c0_i32_47 : BitVec 32 := 0#32
  let v68 : BitVec 1 := Scalar.cmpi .ne v67 c0_i32_47
  let v72 : BitVec 1 := Scalar.andi v71 v68
  let v73 : BitVec 32 := Scalar.addi v67 v66
  let v74 : BitVec 32 := Scalar.select v72 v73 v67
  let c1_i32_54 : BitVec 32 := 1#32
  let v76 : BitVec 32 := Scalar.muli v74 c1_i32_54
  let v77 : BitVec 32 := Scalar.addi c0_i32_55 v76
  v77.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v85 : BitVec 32 := Scalar.addi v2 c3_i32_59
  let c4_i32_60 : BitVec 32 := 4#32
  let c0_i32_61 : BitVec 32 := 0#32
  let v86 : BitVec 1 := Scalar.cmpi .eq c4_i32_60 c0_i32_61
  let c1_i32_62 : BitVec 32 := 1#32
  let v87 : BitVec 32 := Scalar.select v86 c1_i32_62 c4_i32_60
  let v88 : BitVec 32 := Scalar.remsi v85 v87
  let c0_i32_64 : BitVec 32 := 0#32
  let v90 : BitVec 1 := Scalar.cmpi .slt v88 c0_i32_64
  let c0_i32_65 : BitVec 32 := 0#32
  let v91 : BitVec 1 := Scalar.cmpi .slt v87 c0_i32_65
  let v92 : BitVec 1 := Scalar.xori v90 v91
  let c0_i32_63 : BitVec 32 := 0#32
  let v89 : BitVec 1 := Scalar.cmpi .ne v88 c0_i32_63
  let v93 : BitVec 1 := Scalar.andi v92 v89
  let v94 : BitVec 32 := Scalar.addi v88 v87
  let v95 : BitVec 32 := Scalar.select v93 v94 v88
  let c1_i32_70 : BitVec 32 := 1#32
  let v97 : BitVec 32 := Scalar.muli v95 c1_i32_70
  let v98 : BitVec 32 := Scalar.addi c0_i32_71 v97
  v98.toNat
def k0_off2 (d0 : Dev nD) (c0_i32_75 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c0_i32_75
  let c4_i32_76 : BitVec 32 := 4#32
  let c0_i32_77 : BitVec 32 := 0#32
  let v107 : BitVec 1 := Scalar.cmpi .eq c4_i32_76 c0_i32_77
  let c1_i32_78 : BitVec 32 := 1#32
  let v108 : BitVec 32 := Scalar.select v107 c1_i32_78 c4_i32_76
  let v109 : BitVec 32 := Scalar.remsi v106 v108
  let c0_i32_80 : BitVec 32 := 0#32
  let v111 : BitVec 1 := Scalar.cmpi .slt v109 c0_i32_80
  let c0_i32_81 : BitVec 32 := 0#32
  let v112 : BitVec 1 := Scalar.cmpi .slt v108 c0_i32_81
  let v113 : BitVec 1 := Scalar.xori v111 v112
  let c0_i32_79 : BitVec 32 := 0#32
  let v110 : BitVec 1 := Scalar.cmpi .ne v109 c0_i32_79
  let v114 : BitVec 1 := Scalar.andi v113 v110
  let v115 : BitVec 32 := Scalar.addi v109 v108
  let v116 : BitVec 32 := Scalar.select v114 v115 v109
  let c1024_i32_103 : BitVec 32 := 1024#32
  let v150 : BitVec 32 := Scalar.muli v116 c1024_i32_103
  let c0_i32_108 : BitVec 32 := 0#32
  ![v150.toNat, 0]
def k0_off3 (d0 : Dev nD) (c0_i32_75 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c0_i32_75
  let c4_i32_76 : BitVec 32 := 4#32
  let c0_i32_77 : BitVec 32 := 0#32
  let v107 : BitVec 1 := Scalar.cmpi .eq c4_i32_76 c0_i32_77
  let c1_i32_78 : BitVec 32 := 1#32
  let v108 : BitVec 32 := Scalar.select v107 c1_i32_78 c4_i32_76
  let v109 : BitVec 32 := Scalar.remsi v106 v108
  let c0_i32_80 : BitVec 32 := 0#32
  let v111 : BitVec 1 := Scalar.cmpi .slt v109 c0_i32_80
  let c0_i32_81 : BitVec 32 := 0#32
  let v112 : BitVec 1 := Scalar.cmpi .slt v108 c0_i32_81
  let v113 : BitVec 1 := Scalar.xori v111 v112
  let c0_i32_79 : BitVec 32 := 0#32
  let v110 : BitVec 1 := Scalar.cmpi .ne v109 c0_i32_79
  let v114 : BitVec 1 := Scalar.andi v113 v110
  let v115 : BitVec 32 := Scalar.addi v109 v108
  let v116 : BitVec 32 := Scalar.select v114 v115 v109
  let c1024_i32_109 : BitVec 32 := 1024#32
  let v156 : BitVec 32 := Scalar.muli v116 c1024_i32_109
  let c1024_i32_114 : BitVec 32 := 1024#32
  ![v156.toNat, 1024]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_115 : BitVec 32 := 1024#32
  let v162 : BitVec 32 := Scalar.muli v2 c1024_i32_115
  let v163 : Index := Scalar.indexCast v162
  let c0 : Index := 0#32
  ![v163.toNat, 0]
def k0_off5 (d0 : Dev nD) (c0_i32_75 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c0_i32_75
  let c4_i32_76 : BitVec 32 := 4#32
  let c0_i32_77 : BitVec 32 := 0#32
  let v107 : BitVec 1 := Scalar.cmpi .eq c4_i32_76 c0_i32_77
  let c1_i32_78 : BitVec 32 := 1#32
  let v108 : BitVec 32 := Scalar.select v107 c1_i32_78 c4_i32_76
  let v109 : BitVec 32 := Scalar.remsi v106 v108
  let c0_i32_80 : BitVec 32 := 0#32
  let v111 : BitVec 1 := Scalar.cmpi .slt v109 c0_i32_80
  let c0_i32_81 : BitVec 32 := 0#32
  let v112 : BitVec 1 := Scalar.cmpi .slt v108 c0_i32_81
  let v113 : BitVec 1 := Scalar.xori v111 v112
  let c0_i32_79 : BitVec 32 := 0#32
  let v110 : BitVec 1 := Scalar.cmpi .ne v109 c0_i32_79
  let v114 : BitVec 1 := Scalar.andi v113 v110
  let v115 : BitVec 32 := Scalar.addi v109 v108
  let v116 : BitVec 32 := Scalar.select v114 v115 v109
  let c1024_i32_126 : BitVec 32 := 1024#32
  let v176 : BitVec 32 := Scalar.muli v116 c1024_i32_126
  let c2048_i32 : BitVec 32 := 2048#32
  ![v176.toNat, 2048]
def k0_off6 (d0 : Dev nD) (c0_i32_75 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c0_i32_75
  let c4_i32_76 : BitVec 32 := 4#32
  let c0_i32_77 : BitVec 32 := 0#32
  let v107 : BitVec 1 := Scalar.cmpi .eq c4_i32_76 c0_i32_77
  let c1_i32_78 : BitVec 32 := 1#32
  let v108 : BitVec 32 := Scalar.select v107 c1_i32_78 c4_i32_76
  let v109 : BitVec 32 := Scalar.remsi v106 v108
  let c0_i32_80 : BitVec 32 := 0#32
  let v111 : BitVec 1 := Scalar.cmpi .slt v109 c0_i32_80
  let c0_i32_81 : BitVec 32 := 0#32
  let v112 : BitVec 1 := Scalar.cmpi .slt v108 c0_i32_81
  let v113 : BitVec 1 := Scalar.xori v111 v112
  let c0_i32_79 : BitVec 32 := 0#32
  let v110 : BitVec 1 := Scalar.cmpi .ne v109 c0_i32_79
  let v114 : BitVec 1 := Scalar.andi v113 v110
  let v115 : BitVec 32 := Scalar.addi v109 v108
  let v116 : BitVec 32 := Scalar.select v114 v115 v109
  let c1024_i32_140 : BitVec 32 := 1024#32
  let v192 : BitVec 32 := Scalar.muli v116 c1024_i32_140
  let c3072_i32 : BitVec 32 := 3072#32
  ![v192.toNat, 3072]
def k0_off7 (d0 : Dev nD) (c0_i32_75 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c0_i32_75
  let c4_i32_76 : BitVec 32 := 4#32
  let c0_i32_77 : BitVec 32 := 0#32
  let v107 : BitVec 1 := Scalar.cmpi .eq c4_i32_76 c0_i32_77
  let c1_i32_78 : BitVec 32 := 1#32
  let v108 : BitVec 32 := Scalar.select v107 c1_i32_78 c4_i32_76
  let v109 : BitVec 32 := Scalar.remsi v106 v108
  let c0_i32_80 : BitVec 32 := 0#32
  let v111 : BitVec 1 := Scalar.cmpi .slt v109 c0_i32_80
  let c0_i32_81 : BitVec 32 := 0#32
  let v112 : BitVec 1 := Scalar.cmpi .slt v108 c0_i32_81
  let v113 : BitVec 1 := Scalar.xori v111 v112
  let c0_i32_79 : BitVec 32 := 0#32
  let v110 : BitVec 1 := Scalar.cmpi .ne v109 c0_i32_79
  let v114 : BitVec 1 := Scalar.andi v113 v110
  let v115 : BitVec 32 := Scalar.addi v109 v108
  let v116 : BitVec 32 := Scalar.select v114 v115 v109
  let c1024_i32_155 : BitVec 32 := 1024#32
  let v208 : BitVec 32 := Scalar.muli v116 c1024_i32_155
  let c4096_i32 : BitVec 32 := 4096#32
  ![v208.toNat, 4096]
def k0_off8 (d0 : Dev nD) (c0_i32_75 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c0_i32_75
  let c4_i32_76 : BitVec 32 := 4#32
  let c0_i32_77 : BitVec 32 := 0#32
  let v107 : BitVec 1 := Scalar.cmpi .eq c4_i32_76 c0_i32_77
  let c1_i32_78 : BitVec 32 := 1#32
  let v108 : BitVec 32 := Scalar.select v107 c1_i32_78 c4_i32_76
  let v109 : BitVec 32 := Scalar.remsi v106 v108
  let c0_i32_80 : BitVec 32 := 0#32
  let v111 : BitVec 1 := Scalar.cmpi .slt v109 c0_i32_80
  let c0_i32_81 : BitVec 32 := 0#32
  let v112 : BitVec 1 := Scalar.cmpi .slt v108 c0_i32_81
  let v113 : BitVec 1 := Scalar.xori v111 v112
  let c0_i32_79 : BitVec 32 := 0#32
  let v110 : BitVec 1 := Scalar.cmpi .ne v109 c0_i32_79
  let v114 : BitVec 1 := Scalar.andi v113 v110
  let v115 : BitVec 32 := Scalar.addi v109 v108
  let v116 : BitVec 32 := Scalar.select v114 v115 v109
  let c1024_i32_170 : BitVec 32 := 1024#32
  let v224 : BitVec 32 := Scalar.muli v116 c1024_i32_170
  let c5120_i32 : BitVec 32 := 5120#32
  ![v224.toNat, 5120]
def k0_off9 (d0 : Dev nD) (c0_i32_75 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c0_i32_75
  let c4_i32_76 : BitVec 32 := 4#32
  let c0_i32_77 : BitVec 32 := 0#32
  let v107 : BitVec 1 := Scalar.cmpi .eq c4_i32_76 c0_i32_77
  let c1_i32_78 : BitVec 32 := 1#32
  let v108 : BitVec 32 := Scalar.select v107 c1_i32_78 c4_i32_76
  let v109 : BitVec 32 := Scalar.remsi v106 v108
  let c0_i32_80 : BitVec 32 := 0#32
  let v111 : BitVec 1 := Scalar.cmpi .slt v109 c0_i32_80
  let c0_i32_81 : BitVec 32 := 0#32
  let v112 : BitVec 1 := Scalar.cmpi .slt v108 c0_i32_81
  let v113 : BitVec 1 := Scalar.xori v111 v112
  let c0_i32_79 : BitVec 32 := 0#32
  let v110 : BitVec 1 := Scalar.cmpi .ne v109 c0_i32_79
  let v114 : BitVec 1 := Scalar.andi v113 v110
  let v115 : BitVec 32 := Scalar.addi v109 v108
  let v116 : BitVec 32 := Scalar.select v114 v115 v109
  let c1024_i32_185 : BitVec 32 := 1024#32
  let v240 : BitVec 32 := Scalar.muli v116 c1024_i32_185
  let c6144_i32 : BitVec 32 := 6144#32
  ![v240.toNat, 6144]
def k0_off10 (d0 : Dev nD) (c0_i32_75 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c0_i32_75
  let c4_i32_76 : BitVec 32 := 4#32
  let c0_i32_77 : BitVec 32 := 0#32
  let v107 : BitVec 1 := Scalar.cmpi .eq c4_i32_76 c0_i32_77
  let c1_i32_78 : BitVec 32 := 1#32
  let v108 : BitVec 32 := Scalar.select v107 c1_i32_78 c4_i32_76
  let v109 : BitVec 32 := Scalar.remsi v106 v108
  let c0_i32_80 : BitVec 32 := 0#32
  let v111 : BitVec 1 := Scalar.cmpi .slt v109 c0_i32_80
  let c0_i32_81 : BitVec 32 := 0#32
  let v112 : BitVec 1 := Scalar.cmpi .slt v108 c0_i32_81
  let v113 : BitVec 1 := Scalar.xori v111 v112
  let c0_i32_79 : BitVec 32 := 0#32
  let v110 : BitVec 1 := Scalar.cmpi .ne v109 c0_i32_79
  let v114 : BitVec 1 := Scalar.andi v113 v110
  let v115 : BitVec 32 := Scalar.addi v109 v108
  let v116 : BitVec 32 := Scalar.select v114 v115 v109
  let c1024_i32_200 : BitVec 32 := 1024#32
  let v256 : BitVec 32 := Scalar.muli v116 c1024_i32_200
  let c7168_i32 : BitVec 32 := 7168#32
  ![v256.toNat, 7168]
def k0_dev7 (d0 : Dev nD) : Nat :=
  let c0_i32_743 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_731 : BitVec 32 := 1#32
  let v812 : BitVec 32 := Scalar.addi v2 c1_i32_731
  let c4_i32_732 : BitVec 32 := 4#32
  let c0_i32_733 : BitVec 32 := 0#32
  let v813 : BitVec 1 := Scalar.cmpi .eq c4_i32_732 c0_i32_733
  let c1_i32_734 : BitVec 32 := 1#32
  let v814 : BitVec 32 := Scalar.select v813 c1_i32_734 c4_i32_732
  let v815 : BitVec 32 := Scalar.remsi v812 v814
  let c0_i32_736 : BitVec 32 := 0#32
  let v817 : BitVec 1 := Scalar.cmpi .slt v815 c0_i32_736
  let c0_i32_737 : BitVec 32 := 0#32
  let v818 : BitVec 1 := Scalar.cmpi .slt v814 c0_i32_737
  let v819 : BitVec 1 := Scalar.xori v817 v818
  let c0_i32_735 : BitVec 32 := 0#32
  let v816 : BitVec 1 := Scalar.cmpi .ne v815 c0_i32_735
  let v820 : BitVec 1 := Scalar.andi v819 v816
  let v821 : BitVec 32 := Scalar.addi v815 v814
  let v822 : BitVec 32 := Scalar.select v820 v821 v815
  let c1_i32_742 : BitVec 32 := 1#32
  let v823 : BitVec 32 := Scalar.muli v822 c1_i32_742
  let v824 : BitVec 32 := Scalar.addi c0_i32_743 v823
  v824.toNat
def k0_dev8 (d0 : Dev nD) : Nat :=
  let c0_i32_760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_748 : BitVec 32 := 2#32
  let v833 : BitVec 32 := Scalar.addi v2 c2_i32_748
  let c4_i32_749 : BitVec 32 := 4#32
  let c0_i32_750 : BitVec 32 := 0#32
  let v834 : BitVec 1 := Scalar.cmpi .eq c4_i32_749 c0_i32_750
  let c1_i32_751 : BitVec 32 := 1#32
  let v835 : BitVec 32 := Scalar.select v834 c1_i32_751 c4_i32_749
  let v836 : BitVec 32 := Scalar.remsi v833 v835
  let c0_i32_753 : BitVec 32 := 0#32
  let v838 : BitVec 1 := Scalar.cmpi .slt v836 c0_i32_753
  let c0_i32_754 : BitVec 32 := 0#32
  let v839 : BitVec 1 := Scalar.cmpi .slt v835 c0_i32_754
  let v840 : BitVec 1 := Scalar.xori v838 v839
  let c0_i32_752 : BitVec 32 := 0#32
  let v837 : BitVec 1 := Scalar.cmpi .ne v836 c0_i32_752
  let v841 : BitVec 1 := Scalar.andi v840 v837
  let v842 : BitVec 32 := Scalar.addi v836 v835
  let v843 : BitVec 32 := Scalar.select v841 v842 v836
  let c1_i32_759 : BitVec 32 := 1#32
  let v844 : BitVec 32 := Scalar.muli v843 c1_i32_759
  let v845 : BitVec 32 := Scalar.addi c0_i32_760 v844
  v845.toNat
def k0_dev9 (d0 : Dev nD) : Nat :=
  let c0_i32_777 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_765 : BitVec 32 := 3#32
  let v854 : BitVec 32 := Scalar.addi v2 c3_i32_765
  let c4_i32_766 : BitVec 32 := 4#32
  let c0_i32_767 : BitVec 32 := 0#32
  let v855 : BitVec 1 := Scalar.cmpi .eq c4_i32_766 c0_i32_767
  let c1_i32_768 : BitVec 32 := 1#32
  let v856 : BitVec 32 := Scalar.select v855 c1_i32_768 c4_i32_766
  let v857 : BitVec 32 := Scalar.remsi v854 v856
  let c0_i32_770 : BitVec 32 := 0#32
  let v859 : BitVec 1 := Scalar.cmpi .slt v857 c0_i32_770
  let c0_i32_771 : BitVec 32 := 0#32
  let v860 : BitVec 1 := Scalar.cmpi .slt v856 c0_i32_771
  let v861 : BitVec 1 := Scalar.xori v859 v860
  let c0_i32_769 : BitVec 32 := 0#32
  let v858 : BitVec 1 := Scalar.cmpi .ne v857 c0_i32_769
  let v862 : BitVec 1 := Scalar.andi v861 v858
  let v863 : BitVec 32 := Scalar.addi v857 v856
  let v864 : BitVec 32 := Scalar.select v862 v863 v857
  let c1_i32_776 : BitVec 32 := 1#32
  let v865 : BitVec 32 := Scalar.muli v864 c1_i32_776
  let v866 : BitVec 32 := Scalar.addi c0_i32_777 v865
  v866.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S4096x8192, .f32⟩
  | .hbm, ⟨26, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Proof.Proto.lean ====
/-
  The exchange protocol of the kernel: which cells the four devices share, what each landing hands over, and what
  each device owes.

  Device `c`'s peers are `dv c j = c + j + 1` (mod 4), `j = 0, 1, 2`; `dv (dv c j) (rev j) = c` for `rev j = 2 - j`.

  * Barrier: every device signals each peer once and waits for its three units. The unit from peer `dv c d` hands `c`
    the landing slots that `c`'s transfers to that peer will fill.
  * Activations: `c` sends row block `dv c d` of its `x` to `dv c d`, into slot `rev d` there.
  * Maxima: `c` sends its own maximum (slot 0) to each peer, into slot `rev d + 1` there, at a third of its share each.
-/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the exchange's rounds, the local transfers' counters -/

/-- The exchange's rounds, three duties to a cell. -/
abbrev UB : Type := URounds (GSem nD τ sig) (Fin 3)
/-- The three parts together. -/
abbrev UU : Type := UR sig nD τ × (UB × Counters)

local notation "𝕄" => MT nD τ sig Unit (Elt F) ℕ UU ℕ

/-- The pipeline's rounds: the left factor. -/
abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
/-- The exchange's rounds lie within the user's part of the resources. -/
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

set_option backward.proofsInPublic true in
/-- Peer `j` of device `c`: the device `j + 1` further round. -/
def dv (c : Dev nD) (j : Fin 3) : Dev nD := ⟨(c.val + (j.val + 1)) % 4, Nat.mod_lt _ (by decide)⟩

/-- `c` is peer `2 - j` of its peer `j`. -/
theorem dv_rev (c : Dev nD) (j : Fin 3) : dv (dv c j) j.rev = c := by revert c j; decide
/-- `c` is peer `j` of its peer `2 - j`. -/
theorem dv_rev' (c : Dev nD) (j : Fin 3) : dv (dv c j.rev) j = c := by revert c j; decide

/-- Going to peer `j` permutes the devices. -/
def shift (j : Fin 3) : Dev nD ≃ Dev nD := ⟨fun c => dv c j, fun c => dv c j.rev, fun c => dv_rev c j, fun c => dv_rev' c j⟩

/-- The program's first device number is peer 0. -/
theorem dev1_eq (c : Dev nD) : (⟨k0_dev1 c, k0_dev1_lt c⟩ : Dev nD) = dv c 0 := by revert c; decide
/-- The program's second device number is peer 1. -/
theorem dev2_eq (c : Dev nD) : (⟨k0_dev2 c, k0_dev2_lt c⟩ : Dev nD) = dv c 1 := by revert c; decide
/-- The program's third device number is peer 2. -/
theorem dev3_eq (c : Dev nD) : (⟨k0_dev3 c, k0_dev3_lt c⟩ : Dev nD) = dv c 2 := by revert c; decide
/-- The program's fourth device number is peer 0. -/
theorem dev4_eq (c : Dev nD) : (⟨k0_dev4 c, k0_dev4_lt c⟩ : Dev nD) = dv c 0 := by revert c; decide
/-- The program's fifth device number is peer 1. -/
theorem dev5_eq (c : Dev nD) : (⟨k0_dev5 c, k0_dev5_lt c⟩ : Dev nD) = dv c 1 := by revert c; decide
/-- The program's sixth device number is peer 2. -/
theorem dev6_eq (c : Dev nD) : (⟨k0_dev6 c, k0_dev6_lt c⟩ : Dev nD) = dv c 2 := by revert c; decide
/-- The program's seventh device number is peer 0. -/
theorem dev7_eq (c : Dev nD) : (⟨k0_dev7 c, k0_dev7_lt c⟩ : Dev nD) = dv c 0 := by revert c; decide
/-- The program's eighth device number is peer 1. -/
theorem dev8_eq (c : Dev nD) : (⟨k0_dev8 c, k0_dev8_lt c⟩ : Dev nD) = dv c 1 := by revert c; decide
/-- The program's ninth device number is peer 2. -/
theorem dev9_eq (c : Dev nD) : (⟨k0_dev9 c, k0_dev9_lt c⟩ : Dev nD) = dv c 2 := by revert c; decide

/-! ## The buffers and their parts -/

/-- The staged block of `x`. -/
abbrev xM : Memref sig .tc .vmem S4096x1024 .bf16 := Memref.whole cc0_stg0_0
/-- The staged result. -/
abbrev oM : Memref sig .tc .vmem S1024x8192 .f32 := Memref.whole cc0_stg1_0
/-- The weights, in HBM. -/
abbrev wM : Memref sig .tc .hbm S4096x8192 .f32 := Memref.whole main_arg1
/-- The three landing slots of the gathered activations. -/
abbrev gM : Memref sig .tc .vmem S3x1024x1024 .bf16 := Memref.whole cc0_scratch0
/-- The weights' double buffer. -/
abbrev bM : Memref sig .tc .vmem S2x1024x1024 .f32 := Memref.whole cc0_scratch1
/-- The four slots of the maxima. -/
abbrev aM : Memref sig .tc .vmem S4x8x128 .f32 := Memref.whole cc0_scratch2

/-- Row block `b` lies within `x`. -/
theorem xRow_inb (b : Dev nD) : ∀ a, (![1024 * b.val, 0] : Fin 2 → Nat) a + S1024x1024.size a ≤ S4096x1024.size a := by revert b; decide
/-- Slot `s` lies within the landing slots. -/
theorem gSlot_inb (s : Fin 3) : ∀ a, (![s.val, 0, 0] : Fin 3 → Nat) a + S1x1024x1024.size a ≤ S3x1024x1024.size a := by revert s; decide
/-- Slot `s` lies within the double buffer. -/
theorem bSlot_inb (s : Fin 2) : ∀ a, (![s.val, 0, 0] : Fin 3 → Nat) a + S1x1024x1024.size a ≤ S2x1024x1024.size a := by revert s; decide
/-- Slot `s` lies within the maxima. -/
theorem aSlot_inb (s : Fin 4) : ∀ a, (![s.val, 0, 0] : Fin 3 → Nat) a + S1x8x128.size a ≤ S4x8x128.size a := by revert s; decide
/-- Tile `(b, n)` lies within the weights. -/
theorem wTile_inb (b : Dev nD) (n : Fin 8) : ∀ a, (![1024 * b.val, 1024 * n.val] : Fin 2 → Nat) a + S1024x1024.size a ≤ S4096x8192.size a := by revert b n; decide

/-- Row block `b` of a device's `x`. -/
abbrev xRow (b : Dev nD) : Memref sig .tc .vmem S1024x1024 .bf16 :=
  xM.slice (Rect.unit (s := S4096x1024) ![1024 * b.val, 0] S1024x1024.size (xRow_inb b)) (fun _ => rfl)
/-- Landing slot `s` of the gathered activations. -/
abbrev gSlot (s : Fin 3) : Memref sig .tc .vmem S1024x1024 .bf16 :=
  (gM.slice (Rect.unit (s := S3x1024x1024) ![s.val, 0, 0] S1x1024x1024.size (gSlot_inb s)) (fun _ => rfl)).squeeze S1024x1024 squeezes_S1x1024x1024_S1024x1024
/-- Slot `s` of the weights' double buffer. -/
abbrev bSlot (s : Fin 2) : Memref sig .tc .vmem S1024x1024 .f32 :=
  (bM.slice (Rect.unit (s := S2x1024x1024) ![s.val, 0, 0] S1x1024x1024.size (bSlot_inb s)) (fun _ => rfl)).squeeze S1024x1024 squeezes_S1x1024x1024_S1024x1024
/-- Slot `s` of the maxima: 0 the device's own, `s + 1` its peer `s`'s. -/
abbrev aSlot (s : Fin 4) : Memref sig .tc .vmem S8x128 .f32 :=
  (aM.slice (Rect.unit (s := S4x8x128) ![s.val, 0, 0] S1x8x128.size (aSlot_inb s)) (fun _ => rfl)).squeeze S8x128 squeezes_S1x8x128_S8x128
/-- The weights' tile of row block `b` and column block `n`. -/
abbrev wTile (b : Dev nD) (n : Fin 8) : Memref sig .tc .hbm S1024x1024 .f32 :=
  wM.slice (Rect.unit (s := S4096x8192) ![1024 * b.val, 1024 * n.val] S1024x1024.size (wTile_inb b n)) (fun _ => rfl)

/-! ## The cells -/

/-- The runtime's barrier semaphore. -/
abbrev barS : Sem sig := (SemArray.scalar (sig.barrier 0 rfl) : Sems sig S_).sem

/-- A device's shared cells: its barrier (`none`), and for `d : Fin 3` the departure and arrival of an activation
    block, the departure and arrival of a maximum. -/
abbrev KC : Type := Option (Fin 4 × Fin 3)
/-- The barrier's cell. -/
abbrev kBar : KC := none
/-- The departure of the activations sent to peer `d`. -/
abbrev kXs (d : Fin 3) : KC := some (0, d)
/-- The arrival of peer `d`'s activations. -/
abbrev kXr (d : Fin 3) : KC := some (1, d)
/-- The departure of the maximum sent to peer `d`. -/
abbrev kAs (d : Fin 3) : KC := some (2, d)
/-- The arrival of peer `d`'s maximum. -/
abbrev kAr (d : Fin 3) : KC := some (3, d)

/-- The shared semaphores' numbers are in range. -/
theorem semIx_lt (p : Fin 4) (d : Fin 3) : 2 + 3 * p.val + d.val + (if p = 3 then 1 else 0) < 17 := by revert p d; decide
/-- The semaphore of a cell: the transfers' are numbered from 2, the arrival of peer `s`'s maximum is number `s + 1` of
    its array. -/
abbrev csem : KC → SemLoc sig
  | none => .reg barS
  | some (p, d) => .dma ⟨2 + 3 * p.val + d.val + (if p = 3 then 1 else 0), semIx_lt p d⟩
/-- The cell `k` of a device. -/
abbrev kcell (ck : Dev nD × KC) : GSem nD τ sig := ((ck.1 : Thread nD τ), csem ck.2)

/-- Which of the shared cells a semaphore is. -/
def keyOf : SemLoc sig → Option KC
  | .reg s => if s = barS then some none else none
  | .dma q =>
    if 2 ≤ q.val ∧ q.val < 11 then some (some (Fin.ofNat 4 ((q.val - 2) / 3), Fin.ofNat 3 ((q.val - 2) % 3)))
    else if 12 ≤ q.val ∧ q.val < 15 then some (some (3, Fin.ofNat 3 (q.val - 12))) else none
/-- A shared semaphore's key is its cell's. -/
theorem keyOf_csem : ∀ k, keyOf (csem k) = some k := by decide
/-- Different keys have different semaphores. -/
theorem csem_injective : Function.Injective csem := fun a b h => by
  have := congrArg keyOf h; rw [keyOf_csem, keyOf_csem] at this; exact Option.some.inj this

/-- The credit of one block of activations. -/
abbrev Nx : ℕ := (gSlot 0).view.dmaCredit
/-- The credit of one tile of maxima. -/
abbrev Na : ℕ := (aSlot 0).view.dmaCredit
/-- A block's credit is positive. -/
theorem Nx_pos : 0 < Nx := View.dmaCredit_pos _ (by decide)
/-- A tile's credit is positive. -/
theorem Na_pos : 0 < Na := View.dmaCredit_pos _ (by decide)

/-! ## The values -/

/-- Device `c`'s `x` as its kernel finds it staged. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s weights. -/
def wbuf (c : Dev nD) : Buf (Elt F) ((c : Thread nD τ).loc main_arg1) := (s₀ m ρ).mem ((c : Thread nD τ).loc main_arg1)
/-- Row block `b` of device `d`'s `x`. -/
def xblk (d b : Dev nD) : Vec F S1024x1024 .bf16 := (xRow b).view.read (Elt F) (xstg m ρ d)
/-- Tile `(b, n)` of device `c`'s weights. -/
def wblk (c b : Dev nD) (n : Fin 8) : Vec F S1024x1024 .f32 := (wTile b n).view.read (Elt F) (wbuf m ρ c)

/-- The kernel's product of an activation block with a tile of the weights. -/
def mm (x : FVec F S1024x1024 .bf16) (w : Vec F S1024x1024 .f32) : FVec F S1024x1024 .f32 :=
  matmul dot_S1024x1024_S1024x1024_S1024x1024_1_0_0_1_n_n none x (truncf .bf16 w bitsLt_bf16_f32) (constant S1024x1024 .f32 0x00000000#32)

/-- The product's part from device `b`: that device's activations for `c` against row block `b` of `c`'s weights. -/
def part (c b : Dev nD) (n : Fin 8) : FVec F S1024x1024 .f32 := mm (xblk m ρ b c) (wblk m ρ c b n)

/-- Column block `n` of device `c`'s result after 1, 2, 3, 4 parts, in the kernel's order. -/
def acc (c : Dev nD) (n : Fin 8) : Fin 4 → FVec F S1024x1024 .f32
  | 0 => part m ρ c c n
  | 1 => addf (part m ρ c c n) (part m ρ c (dv c 0) n)
  | 2 => addf (addf (part m ρ c c n) (part m ρ c (dv c 0) n)) (part m ρ c (dv c 2) n)
  | 3 => addf (addf (addf (part m ρ c c n) (part m ρ c (dv c 0) n)) (part m ρ c (dv c 2) n)) (part m ρ c (dv c 1) n)

/-- The maximum of a tile, as the kernel takes it. -/
def tmax (t : FVec F S1024x1024 .f32) : F .f32 :=
  extractAt ![0, 0, 0] (shapeCast S1x1x1 (multiReduction .maximumf [1, 2] S1 (shapeCast S1x1024x1024 t shapeCasts_S1024x1024_S1x1024x1024)
    0xFF800000#32 reduces_S1x1024x1024_S1 (.inl rfl) rfl) shapeCasts_S1_S1x1x1) inpos_S1x1x1_p0_0_0

/-- Zero or the largest entry of the first `n` column blocks. -/
def runMax (c : Dev nD) : ℕ → F .f32
  | 0 => Scalar.ofBits .f32 0x00000000#32
  | n + 1 => Scalar.maximumf (runMax c n) (tmax (acc m ρ c (Fin.ofNat 8 n) 3))
/-- Device `c`'s own maximum. -/
def amax (c : Dev nD) : F .f32 := runMax m ρ c 8

/-- The maximum over all four devices. -/
def gmax (c : Dev nD) : F .f32 := Scalar.maximumf (Scalar.maximumf (Scalar.maximumf (amax m ρ c) (amax m ρ (dv c 0))) (amax m ρ (dv c 1))) (amax m ρ (dv c 2))
/-- The quantiser's step. -/
def qscale (c : Dev nD) : F .f32 := Scalar.divf (Scalar.maximumf (gmax m ρ c) (Scalar.ofBits .f32 0x0DA24260#32)) (Scalar.ofBits .f32 0x42FE0000#32)

/-- A column block clipped at zero, quantised to `-127 … 127` steps and scaled back. -/
def quant (s : F .f32) (t : Vec F S1024x1024 .f32) : FVec F S1024x1024 .f32 :=
  mulf (minimumf (broadcast S1024x1024 (Scalar.ofBits .f32 0x42FE0000#32)) (maximumf (broadcast S1024x1024 (Scalar.ofBits .f32 0xC2FE0000#32))
    (roundeven (divf (maximumf (shapeCast S1024x1024 t shapeCasts_S1024x1024_S1024x1024) (broadcast S1024x1024 (Scalar.ofBits .f32 0x00000000#32)))
      (broadcast S1024x1024 s))))) (broadcast S1024x1024 s)

/-- Column block `n` of device `c`'s result. -/
def outTile (c : Dev nD) (n : Fin 8) : FVec F S1024x1024 .f32 := quant (qscale m ρ c) (acc m ρ c n 3)

/-! ## The parts held -/

/-- Row block `b` of device `c`'s `x`, held whole. -/
def xPts (c b : Dev nD) : sProp 𝕄 := (xRow b).view.loc (c : Thread nD τ) ↦[(xRow b).view.set]{fullShare} xstg m ρ c
/-- Landing slot `s` of device `c`, held at some contents. -/
def gPts (c : Dev nD) (s : Fin 3) (f : Buf (Elt F) ((gSlot s).view.loc (c : Thread nD τ))) : sProp 𝕄 :=
  (gSlot s).view.loc (c : Thread nD τ) ↦[(gSlot s).view.set]{fullShare} f
/-- Slot `s` of device `c`'s maxima, held at a share. -/
def aPts (c : Dev nD) (s : Fin 4) (q : PosShare TreeShare) (f : Buf (Elt F) ((aSlot s).view.loc (c : Thread nD τ))) : sProp 𝕄 :=
  (aSlot s).view.loc (c : Thread nD τ) ↦[(aSlot s).view.set]{q} f
/-- Slot `s` of the gathered activations holding the block that came from peer `s`. -/
def gLanded (c : Dev nD) (s : Fin 3) : sProp 𝕄 :=
  iprop(∃ f, gPts c s ((gSlot s).view.writes (Elt F) f [⟨Rect.whole S1024x1024, xblk m ρ (dv c s) c⟩]))
/-- Slot `s` of the maxima holding device `p`'s maximum in every element. -/
def aHold (c : Dev nD) (s : Fin 4) (q : PosShare TreeShare) (p : Dev nD) : sProp 𝕄 := aPts c s q (fun _ => amax m ρ p)

/-- The thirds of its own maximum that a device lends its three transfers. -/
def third : Fin 3 → PosShare TreeShare
  | 0 => fullShare.left
  | 1 => fullShare.right.left
  | 2 => fullShare.right.right

section
variable (c : Dev nD)
/-- A row block may be stored in an invariant. -/
instance xPts_storable (b : Dev nD) : BI.Storable (upEmb : UEmb _ 𝕄) (xPts (F := F) m ρ c b) := by unfold xPts; infer_instance
omit [FloatOps F] in
/-- A landing slot may be stored in an invariant. -/
instance gPts_storable (s : Fin 3) (f) : BI.Storable (upEmb : UEmb _ 𝕄) (gPts (F := F) c s f) := by unfold gPts; infer_instance
omit [FloatOps F] in
/-- A slot of the maxima may be stored in an invariant. -/
instance aPts_storable (s : Fin 4) (q) (f) : BI.Storable (upEmb : UEmb _ 𝕄) (aPts (F := F) c s q f) := by unfold aPts; infer_instance
/-- A landed block may be stored in an invariant. -/
instance gLanded_storable (s : Fin 3) : BI.Storable (upEmb : UEmb _ 𝕄) (gLanded (F := F) m ρ c s) := by unfold gLanded; infer_instance
/-- A landed maximum may be stored in an invariant. -/
instance aHold_storable (s : Fin 4) (q) (p : Dev nD) : BI.Storable (upEmb : UEmb _ 𝕄) (aHold (F := F) m ρ c s q p) := by unfold aHold; infer_instance
end

/-! ## The schedule -/

/-- What the barrier unit of peer `dv c d` hands `c`: that peer's landing slots for `c`'s block and `c`'s maximum. -/
def barPay (c : Dev nD) (d : Fin 3) : sProp 𝕄 := iprop((∃ f, gPts (F := F) (dv c d) d.rev f) ∗ ∃ f, aPts (F := F) (dv c d) d.rev.succ fullShare f)

/-- The duties on a cell: the barrier's three, or a transfer's one. -/
def kDuties : KC → Finset (Fin 3)
  | none => Finset.univ
  | some _ => {0}
/-- The units of one duty. -/
def kAmount : KC → ℕ
  | none => 1
  | some (p, _) => if p.val < 2 then Nx else Na
/-- What a duty on the cell hands to the waiter. -/
def kPay (c : Dev nD) : KC → Fin 3 → sProp 𝕄
  | none, d => barPay c d
  | some (0, d), _ => xPts m ρ c (dv c d)
  | some (1, s), _ => gLanded m ρ c s
  | some (2, d), _ => aHold m ρ c 0 (third d) c
  | some (3, s), _ => aHold m ρ c s.succ fullShare (dv c s)

/-- Every duty has units. -/
theorem kAmount_pos (k : KC) : 0 < kAmount k := by
  rcases k with _ | ⟨p, d⟩
  · exact Nat.one_pos
  · unfold kAmount; dsimp only; split
    · exact Nx_pos
    · exact Na_pos

/-- Every payload may be stored in an invariant. -/
instance kPay_storable (c : Dev nD) (k : KC) (d : Fin 3) : BI.Storable (upEmb : UEmb _ 𝕄) (kPay (F := F) m ρ c k d) := by
  rcases k with _ | ⟨p, e⟩
  · unfold kPay barPay; infer_instance
  · fin_cases p <;> (unfold kPay; dsimp only; infer_instance)

/-- One round on every shared cell: a barrier cell has the three duties of one unit each, a transfer's cell one duty of
    the block's credit. -/
def Rd : Rounds.Schedule (GSem nD τ sig) (Fin 3) 𝕄 where
  duties g r := if r = 0 ∧ g.1.2 = .tc then (match keyOf g.2 with | some k => kDuties k | none => ∅) else ∅
  unitless _ := False
  amount g _ _ := match keyOf g.2 with | some k => kAmount k | none => 1
  payload g _ d := match keyOf g.2 with | some k => kPay m ρ g.1.1 k d | none => iprop(emp)
  amount_pos g _ _ _ := by
    show 0 < (match keyOf g.2 with | some k => kAmount k | none => 1); split
    · exact kAmount_pos _
    · exact Nat.one_pos

/-- Every payload of the schedule may be stored in an invariant. -/
instance Rd_payload_storable (g : GSem nD τ sig) (r : ℕ) (d : Fin 3) :
    BI.Storable (upEmb : UEmb _ 𝕄) ((Rd (F := F) m ρ).payload g r d) := by
  show BI.Storable upEmb (match keyOf g.2 with | some k => kPay m ρ g.1.1 k d | none => iprop(emp))
  split <;> infer_instance

section Sched
variable (c : Dev nD) (k : KC)

/-- The duties of a shared cell's round. -/
theorem duties_eq : (Rd (F := F) m ρ).duties (kcell (c, k)) 0 = kDuties k := by
  dsimp only [Rd]; rw [if_pos ⟨rfl, rfl⟩, keyOf_csem]
/-- There is no second round. -/
theorem duties_later (g : GSem nD τ sig) : ∀ r, 1 ≤ r → (Rd (F := F) m ρ).duties g r = ∅ :=
  fun r hr => by dsimp only [Rd]; rw [if_neg fun h => by omega]
/-- The units of a duty of a shared cell's round. -/
theorem amount_eq (d : Fin 3) : (Rd (F := F) m ρ).amount (kcell (c, k)) 0 d = kAmount k := by
  dsimp only [Rd]; rw [keyOf_csem]
/-- The payload of a duty of a shared cell's round. -/
theorem payload_eq (d : Fin 3) : (Rd (F := F) m ρ).payload (kcell (c, k)) 0 d = kPay m ρ c k d := by
  dsimp only [Rd]; rw [keyOf_csem]
/-- The units of a shared cell's whole round. -/
theorem expect_eq : (Rd (F := F) m ρ).expect (kcell (c, k)) 0 = (kDuties k).card * kAmount k := by
  unfold Schedule.expect Schedule.amountOf
  rw [duties_eq, Finset.sum_congr rfl fun d _ => amount_eq m ρ c k d, Finset.sum_const, smul_eq_mul]
/-- The rest of a cell's round, no duty taken: every duty's payload. -/
theorem rest_eq : bigSep ((Rd (F := F) m ρ).duties (kcell (c, k)) 0 \ ∅) (fun d => (Rd (F := F) m ρ).payload (kcell (c, k)) 0 d)
    = bigSep (kDuties k) (kPay m ρ c k) := by
  rw [Finset.sdiff_empty, duties_eq]; exact bigSep_congr fun d _ => payload_eq m ρ c k d
/-- A transfer's round hands over its one payload. -/
theorem rest_some (p : Fin 4 × Fin 3) : bigSep (kDuties (some p)) (kPay (F := F) m ρ c (some p)) = kPay m ρ c (some p) 0 := by
  show bigSep {0} _ = _; rw [bigSep_singleton]
end Sched

/-! ## What each device owes; the levels -/

/-- Owed after the barrier units and the activations are sent: the three maxima, the first to be sent last in the sum. -/
def OA (c : Dev nD) : CellTallies nD τ sig Unit :=
  tallyAt (kcell (dv c 2, kAr 0)) () Na + tallyAt (kcell (dv c 1, kAr 1)) () Na + tallyAt (kcell (dv c 0, kAr 2)) () Na
/-- Owed after the barrier units: those and the three activation blocks. -/
def OX (c : Dev nD) : CellTallies nD τ sig Unit :=
  OA c + tallyAt (kcell (dv c 2, kXr 0)) () Nx + tallyAt (kcell (dv c 1, kXr 1)) () Nx + tallyAt (kcell (dv c 0, kXr 2)) () Nx
/-- Owed at launch. -/
def O₀ (c : Dev nD) : CellTallies nD τ sig Unit :=
  OX c + tallyAt (kcell (dv c 2, kBar)) () 1 + tallyAt (kcell (dv c 1, kBar)) () 1 + tallyAt (kcell (dv c 0, kBar)) () 1

/-- The labels of a cell's units: one label on a core's cells. -/
def L (g : GSem nD τ sig) : Finset Unit := if g.1.2 = .tc then {()} else ∅
/-- A cell's level: barrier 1, arrivals of activations 2, arrivals of maxima 3, everything else 0. -/
def kLv : Option KC → ℕ
  | some none => 1
  | some (some (1, _)) => 2
  | some (some (3, _)) => 3
  | _ => 0
/-- A cell's level, by its key. -/
def lv (g : GSem nD τ sig) (_ : Unit) : ℕ := kLv (keyOf g.2)

/-- No label off the cores. -/
theorem L_of_ne (g : GSem nD τ sig) (h : g.1.2 ≠ .tc) : L g = ∅ := if_neg h
/-- One label on a core's cells. -/
theorem L_tc (c : Dev nD) (sm : SemLoc sig) : L ((c : Thread nD τ), sm) = {()} := if_pos rfl

/-- A tally at one cell counts nothing elsewhere. -/
theorem tallyAt_pos {g g' : GSem nD τ sig} {n : ℕ} {u : Unit} (h : 0 < tallyAt g () n g' u) : g' = g := by
  rw [tallyAt_apply] at h; by_contra hn; rw [if_neg fun h' => hn h'.1] at h; exact Nat.lt_irrefl 0 h
/-- Where a sum of tallies is positive one of them is. -/
theorem add_pos_or {A B : CellTallies nD τ sig Unit} {g : GSem nD τ sig} {u : Unit} (h : 0 < (A + B) g u) : 0 < A g u ∨ 0 < B g u := by
  rw [Pi.add_apply, Finsupp.add_apply] at h; omega

/-- Every unit owed is owed to a device's cell of a level above `n`. -/
def Above (n : ℕ) (O : CellTallies nD τ sig Unit) : Prop := ∀ g u, 0 < O g u → g.1.2 = .tc ∧ n < lv g u

/-- Two sums above a level are so together. -/
theorem Above.add {n : ℕ} {A B : CellTallies nD τ sig Unit} (hA : Above n A) (hB : Above n B) : Above n (A + B) :=
  fun g u h => (add_pos_or h).elim (hA g u) (hB g u)
/-- A tally at a cell above the level. -/
theorem Above.tally {n N : ℕ} (c : Dev nD) (k : KC) (h : n < kLv (some k)) : Above n (tallyAt (kcell (c, k)) () N) :=
  fun g u hg => by rw [tallyAt_pos hg]; exact ⟨rfl, by unfold lv; rw [keyOf_csem]; exact h⟩
/-- Owing nothing is above every level. -/
theorem Above.zero {n : ℕ} : Above n 0 := fun g u h => absurd h (Nat.lt_irrefl 0)

/-- The maxima are owed above level 2. -/
theorem above_OA (c : Dev nD) : Above 2 (OA c) :=
  ((Above.tally _ _ (by decide)).add (Above.tally _ _ (by decide))).add (Above.tally _ _ (by decide))
/-- Above a level is above the lower ones. -/
theorem Above.mono {n n' : ℕ} (h : n' ≤ n) {O : CellTallies nD τ sig Unit} (hO : Above n O) : Above n' O :=
  fun g u hg => ⟨(hO g u hg).1, lt_of_le_of_lt h (hO g u hg).2⟩
/-- Activations and maxima are owed above level 1. -/
theorem above_OX (c : Dev nD) : Above 1 (OX c) :=
  ((((above_OA c).mono (by decide)).add (Above.tally _ _ (by decide))).add (Above.tally _ _ (by decide))).add (Above.tally _ _ (by decide))
/-- All that is owed at launch is owed above level 0. -/
theorem above_O₀ (c : Dev nD) : Above 0 (O₀ c) :=
  ((((above_OX c).mono (by decide)).add (Above.tally _ _ (by decide))).add (Above.tally _ _ (by decide))).add (Above.tally _ _ (by decide))

omit [FloatOps F] in
/-- A device may wait on a cell of its own whose level is below everything it owes. -/
theorem mayWait (c : Dev nD) (sm : SemLoc sig) (n : ℕ) (hn : kLv (keyOf sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hn)
    (fun g u hg => (hO g u hg).2)

end Cert.KernelIdeal.Exchange

end
-- ==== Proof.Held.lean ====
/-
  What a device holds between the kernel's steps: the weights' transfers in flight, the result's buffer filled tile by
  tile, and what a load of each gives.
-/
module

public import proofs.«01_k».proof.Proof.Proto
public import Idealize.ShloMosaic.Lib.WritesUnit

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The order of the parts -/

/-- The device whose activations the kernel's step `k` multiplies. -/
def kb (c : Dev nD) : Fin 4 → Dev nD
  | 0 => c
  | 1 => dv c 0
  | 2 => dv c 2
  | 3 => dv c 1

/-- The word naming it in the kernel's offsets. -/
def kw : Fin 4 → BitVec 32
  | 0 => 0#32
  | 1 => 1#32
  | 2 => 3#32
  | 3 => 2#32

/-- The tile of the weights read for column block 0 at step `k`. -/
theorem off2_eq (c : Dev nD) (k : Fin 4) : k0_off2 c (kw k) = ![1024 * (kb c k).val, 1024 * (0 : Fin 8).val] := by revert c k; decide +kernel
/-- The tile of the weights read for column block 1 at step `k`. -/
theorem off3_eq (c : Dev nD) (k : Fin 4) : k0_off3 c (kw k) = ![1024 * (kb c k).val, 1024 * (1 : Fin 8).val] := by revert c k; decide +kernel
/-- The tile of the weights read for column block 2 at step `k`. -/
theorem off5_eq (c : Dev nD) (k : Fin 4) : k0_off5 c (kw k) = ![1024 * (kb c k).val, 1024 * (2 : Fin 8).val] := by revert c k; decide +kernel
/-- The tile of the weights read for column block 3 at step `k`. -/
theorem off6_eq (c : Dev nD) (k : Fin 4) : k0_off6 c (kw k) = ![1024 * (kb c k).val, 1024 * (3 : Fin 8).val] := by revert c k; decide +kernel
/-- The tile of the weights read for column block 4 at step `k`. -/
theorem off7_eq (c : Dev nD) (k : Fin 4) : k0_off7 c (kw k) = ![1024 * (kb c k).val, 1024 * (4 : Fin 8).val] := by revert c k; decide +kernel
/-- The tile of the weights read for column block 5 at step `k`. -/
theorem off8_eq (c : Dev nD) (k : Fin 4) : k0_off8 c (kw k) = ![1024 * (kb c k).val, 1024 * (5 : Fin 8).val] := by revert c k; decide +kernel
/-- The tile of the weights read for column block 6 at step `k`. -/
theorem off9_eq (c : Dev nD) (k : Fin 4) : k0_off9 c (kw k) = ![1024 * (kb c k).val, 1024 * (6 : Fin 8).val] := by revert c k; decide +kernel
/-- The tile of the weights read for column block 7 at step `k`. -/
theorem off10_eq (c : Dev nD) (k : Fin 4) : k0_off10 c (kw k) = ![1024 * (kb c k).val, 1024 * (7 : Fin 8).val] := by revert c k; decide +kernel
/-- The row block of `x` sent to peer `j` is that peer's. -/
theorem off1_eq (c : Dev nD) (j : Fin 3) : k0_off1 c (BitVec.ofNat 32 (1 + j.val)) = ![1024 * (dv c j).val, 0] := by revert c j; decide +kernel

/-- A slice of the weights at a tile's offsets is that tile. -/
theorem wTile_eq {b : Dev nD} {n : Fin 8} {off : Fin 2 → ℕ} (h : off = ![1024 * b.val, 1024 * n.val])
    (inb : ∀ a, off a + S1024x1024.size a ≤ S4096x8192.size a) (hs) :
    wM.slice (Rect.unit (s := S4096x8192) off S1024x1024.size inb) hs = wTile b n := by subst h; rfl

/-! ## The weights -/

/-- The share of the weights that the transfers into slot `i` read. -/
def wTok (c : Dev nD) (i : Fin 2) : sProp 𝕄 := wM.view.loc (c : Thread nD τ) ↦{Transfers.shareTok fullShare 2 i} wbuf m ρ c
/-- A slot of the double buffer. -/
def bPts (c : Dev nD) (s : Fin 2) (f : Buf (Elt F) ((bSlot s).view.loc (c : Thread nD τ))) : sProp 𝕄 := (bSlot s).view.loc (c : Thread nD τ) ↦[(bSlot s).view.set]{fullShare} f
/-- The semaphore of a slot's transfers. -/
abbrev wSem (s : Fin 2) : DmaSem sig := ⟨15 + s.val, by have := s.isLt; show 15 + s.val < 17; omega⟩

/-- Tile `(b, n)` of the weights on its way into slot `s`: the slot comes back holding the tile, with the share of the
    weights lent to the transfer. -/
def wFly (c : Dev nD) (s : Fin 2) (b : Dev nD) (n : Fin 8) : sProp 𝕄 :=
  iprop(∃ g, ⌜(bSlot s).view.read (Elt F) g = wblk m ρ c b n⌝
    ∗ Transfers.Flight countersEmb (c : Thread nD τ) (SemLoc.dma (wSem s)) () 131072
        iprop(((bSlot s).view.loc (c : Thread nD τ) ↦[(bSlot s).view.set]{fullShare} g)
          ∗ (wM.view.loc (c : Thread nD τ) ↦[(wTile b n).view.set]{Transfers.shareTok fullShare 2 s} wbuf m ρ c))
    ∗ (wM.view.loc (c : Thread nD τ) ↦[Finset.univ \ (wTile b n).view.set]{Transfers.shareTok fullShare 2 s} wbuf m ρ c))

/-- A load of a slot, its unit axis dropped, reads what the slot holds. -/
theorem load_slot (s : Fin 2) (inb) (hc) (g : bM.view.ty.Contents (Elt F)) :
    shapeCast S1024x1024 (bM.view.readAt (Elt F) (Rect.unit (s := S2x1024x1024) ![s.val, 0, 0] S1x1024x1024.size inb).toLoadRect g) hc
      = (bSlot s).view.read (Elt F) g := rfl

/-- A slot written whole reads the block written. -/
theorem read_landed (s : Fin 2) (f : (bSlot s).view.ty.Contents (Elt F)) (X : Vec F S1024x1024 .f32) (L : List (View.Piece (Elt F) S1024x1024 .f32)) :
    (bSlot s).view.read (Elt F) ((bSlot s).view.writes (Elt F) f (⟨Rect.whole S1024x1024, X⟩ :: L)) = X :=
  funext fun x => by
    have h := View.read_writes_cons_emb (bSlot s).view f (Rect.whole S1024x1024) X L x
    rwa [Rect.emb_whole_apply] at h

/-! ## The result's buffer -/

/-- Column block `n` lies within the result. -/
theorem oTile_inb (n : Fin 8) : ∀ a, (![0, 1024 * n.val] : Fin 2 → Nat) a + S1024x1024.size a ≤ S1024x8192.size a := by revert n; decide
/-- Column block `n` of the result. -/
abbrev oTile (n : Fin 8) : Rect S1024x8192 := Rect.unit (s := S1024x8192) ![0, 1024 * n.val] S1024x1024.size (oTile_inb n)

/-- The result's buffer, its eight column blocks given. -/
def oBuf (t : Fin 8 → Vec F S1024x1024 .f32) : (cc0_stg1_0 : Ref sig .tc).ty.Contents (Elt F) := fun i =>
  t (Fin.ofNat 8 ((i 1).val / 1024)) (fun a => match a with | 0 => i 0 | 1 => ⟨(i 1).val % 1024, Nat.mod_lt _ (by decide)⟩)

/-- The result's buffer held whole. -/
def oPts (c : Dev nD) (f : Buf (Elt F) (oM.view.loc (c : Thread nD τ))) : sProp 𝕄 := oM.view.loc (c : Thread nD τ) ↦{fullShare} f

/-- The buffer at element `(x₀, 1024 n + x₁)` is block `n` at `(x₀, x₁)`. -/
theorem oBuf_at (t : Fin 8 → Vec F S1024x1024 .f32) (n : Fin 8) (i : S1024x8192.Idx) (x : S1024x1024.Idx)
    (h0 : (i 0).val = (x 0).val) (h1 : (i 1).val = 1024 * n.val + (x 1).val) : oBuf t i = t n x := by
  have hx : (x 1).val < 1024 := (x 1).isLt
  have hn : Fin.ofNat 8 ((i 1).val / 1024) = n := Fin.ext (by
    show (i 1).val / 1024 % 8 = n.val
    have := n.isLt; omega)
  unfold oBuf
  rw [hn]
  refine congrArg (t n) (funext fun a => ?_)
  match a with
  | 0 => exact Fin.ext h0
  | 1 => exact Fin.ext (by show (i 1).val % 1024 = (x 1).val; omega)

/-- A load of a column block reads it. -/
theorem load_tile (t : Fin 8 → Vec F S1024x1024 .f32) (n : Fin 8) : oM.view.readAt (Elt F) (oTile n).toLoadRect (oBuf t) = t n :=
  funext fun x => oBuf_at t n _ x (by show 0 + 1 * (x 0).val = _; omega) (by show 1024 * n.val + 1 * (x 1).val = _; omega)

/-- After stores to some column blocks, an element of one of those is the block's. -/
theorem stored_at (f : (cc0_stg1_0 : Ref sig .tc).ty.Contents (Elt F)) (t : Fin 8 → Vec F S1024x1024 .f32) (i : S1024x8192.Idx) :
    ∀ l : List (Fin 8), Fin.ofNat 8 ((i 1).val / 1024) ∈ l →
      oM.view.read (Elt F) (oM.view.writes (Elt F) f (l.map fun n => (⟨oTile n, t n⟩ : View.Piece (Elt F) S1024x8192 .f32))) i = oBuf t i
  | [], h => absurd h List.not_mem_nil
  | n :: l, h => by
    have hi : (i 1).val < 8192 := (i 1).isLt
    by_cases hn : (i 1).val / 1024 = n.val
    · let x : S1024x1024.Idx := fun a => match a with | 0 => i 0 | 1 => ⟨(i 1).val % 1024, Nat.mod_lt _ (by decide)⟩
      have e0 : (i 0).val = 0 + (x 0).val := (Nat.zero_add _).symm
      have e1 : (i 1).val = 1024 * n.val + (x 1).val := by show _ = 1024 * n.val + (i 1).val % 1024; omega
      rw [oBuf_at t n i x (by omega) e1]
      refine View.read_writes_cons_unit_of_mem oM.view f (oTile_inb n) (t n) _ i x rfl fun a => ?_
      match a with
      | 0 => exact e0
      | 1 => exact e1
    · rw [List.map_cons, View.read_writes_cons_unit_of_not_mem oM.view f (oTile_inb n) (t n) _ i rfl 1
        (by show (i 1).val < 1024 * n.val ∨ 1024 * n.val + 1024 ≤ (i 1).val; omega)]
      refine stored_at f t i l ((List.mem_cons.mp h).resolve_left fun he => hn ?_)
      rw [← he]; show _ = (i 1).val / 1024 % 8; omega

/-- The buffer after a store to every column block. -/
theorem stored_tiles (f : (cc0_stg1_0 : Ref sig .tc).ty.Contents (Elt F)) (t : Fin 8 → Vec F S1024x1024 .f32) :
    oM.view.writes (Elt F) f [⟨oTile 7, t 7⟩, ⟨oTile 6, t 6⟩, ⟨oTile 5, t 5⟩, ⟨oTile 4, t 4⟩, ⟨oTile 3, t 3⟩, ⟨oTile 2, t 2⟩, ⟨oTile 1, t 1⟩, ⟨oTile 0, t 0⟩]
      = oBuf t := by
  have hl : ([⟨oTile 7, t 7⟩, ⟨oTile 6, t 6⟩, ⟨oTile 5, t 5⟩, ⟨oTile 4, t 4⟩, ⟨oTile 3, t 3⟩, ⟨oTile 2, t 2⟩, ⟨oTile 1, t 1⟩, ⟨oTile 0, t 0⟩]
      : List (View.Piece (Elt F) S1024x8192 .f32)) = [7, 6, 5, 4, 3, 2, 1, 0].map fun n => (⟨oTile n, t n⟩ : View.Piece (Elt F) S1024x8192 .f32) := rfl
  have hm : ∀ n : Fin 8, n ∈ ([7, 6, 5, 4, 3, 2, 1, 0] : List (Fin 8)) := by decide
  rw [hl]
  generalize ([7, 6, 5, 4, 3, 2, 1, 0] : List (Fin 8)) = l at hm
  exact funext fun i => stored_at f t i l (hm _)

end Cert.KernelIdeal.Exchange

end
-- ==== Proof.Groups.lean ====
/-
  The kernel's body cut at the exchange: the handshake and the sends of the activations, the four steps of the product
  (one per device whose activations are multiplied), the exchange of the maxima, the quantiser.
-/
module

public import proofs.«01_k».proof.Proof.Held

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- No loop of this program needs a variant. -/
abbrev 𝒱₀ : Variants := Variants.none
/-- The effects of a core's program. -/
abbrev E : Type → Type := TpuEff nD τ sig (Elt F) Λ₀ .tc

/-- The handshake and the sends of the activations. -/
def grpSend : Prog (E (F := F)) (Σ' (d0 : Dev nD) (v2 : BitVec 32) (v116 : BitVec 32) (v127 : BitVec 32) (v130 : BitVec 32), BitVec 32) := do
  let ⟨d0, v2, v3, v30, c4_i32_18, v31⟩ ← k0_part1 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7
  k0_part2 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v2 v3 v30 c4_i32_18 v31
  let v95 ← k0_part3 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v2
  let ⟨v116, v127, v130, v131⟩ ← k0_part4 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v2 v95
  pure ⟨d0, v2, v116, v127, v130, v131⟩

/-- The first step: the device's own activations. -/
def grp0 (d0 : Dev nD) (v2 v116 v127 v130 v131 : BitVec 32) : Prog (E (F := F)) (Σ' (_ : BitVec 32), BitVec 32) := do
  let ⟨v138, v149, v165⟩ ← k0_part5 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v2 v116 v130 v131
  let c1024_i32_140 ← k0_part6 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v116 v165
  k0_part7 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v116 v165 c1024_i32_140
  k0_part8 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v116 v165
  let c1024_i32_215 ← k0_part9 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v116 v165
  k0_part10 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v127 v165 c1024_i32_215
  pure ⟨v138, v149⟩

/-- The second step: peer 0's activations. -/
def grp1 (d0 : Dev nD) (v127 v138 : BitVec 32) : Prog (E (F := F)) PUnit := do
  let v303 ← k0_part11 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v127
  let v353 ← k0_part12 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v127 v303
  k0_part13 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v127 v303 v353
  let ⟨v407, v409⟩ ← k0_part14 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v127 v303
  k0_part15 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v127 v138 v303 v407 v409
  k0_part16 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v138 v303

/-- The third step: peer 2's activations; it returns peer 1's. -/
def grp2 (d0 : Dev nD) (v138 v149 : BitVec 32) : Prog (E (F := F)) (FVec F S1024x1024 .bf16) := do
  let ⟨v465, v490⟩ ← k0_part17 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v138
  k0_part18 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v138 v465 v490
  k0_part19 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v138 v465
  k0_part20 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v138 v465
  k0_part21 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v149 v465
  k0_part22 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v149 v465

/-- The fourth step: peer 1's activations, and the running maximum. -/
def grp3 (d0 : Dev nD) (v2 v149 : BitVec 32) (v627 : FVec F S1024x1024 .bf16) :
    Prog (E (F := F)) (Σ' (v807 : F .f32) (v812 : BitVec 32) (c4_i32_732 : BitVec 32), BitVec 1) := do
  let ⟨v645, v658⟩ ← k0_part23 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v149 v627
  let ⟨v669, v689⟩ ← k0_part24 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v149 v627 v645 v658
  let v717 ← k0_part25 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v149 v627 v669 v689
  let v741 ← k0_part26 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v149 v627 v717
  let ⟨v765, v780⟩ ← k0_part27 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v149 v627 v741
  k0_part28 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v2 v627 v765 v780

/-- The exchange of the maxima. -/
def grpMax (d0 : Dev nD) (v2 : BitVec 32) (v807 : F .f32) (v812 c4_i32_732 : BitVec 32) (v813 : BitVec 1) : Prog (E (F := F)) (Σ' (v918 : F .f32), F .f32) := do
  k0_part29 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v2 v812 c4_i32_732 v813
  let ⟨v877, v878⟩ ← k0_part30 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v2
  let ⟨v896, v908, c0_i32_814⟩ ← k0_part31 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 v2 v807 v877 v878
  k0_part32 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 v2 v896 v908 c0_i32_814

/-- The quantiser. -/
def grpQuant (v918 v939 : F .f32) : Prog (E (F := F)) (FVec F S1024x1024 .f32) := do
  let ⟨v942, v977, cst_860⟩ ← k0_part33 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 v918 v939
  let ⟨v1014, cst_880⟩ ← k0_part34 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 v942 v977 cst_860
  k0_part35 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 v942 v1014 cst_880

/-- The last column block's store, and the waits for the transfers sent. -/
def grpEnd (d0 : Dev nD) (v1053 : FVec F S1024x1024 .f32) : Prog (E (F := F)) PUnit := do
  k0_part36 xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 d0 v1053
  Prog.lift (.waitDma2 ((cc0_scratch5.slice (Rect.unit (s := S3) ![1] S1.size inb_S3_S1_1)).squeeze S_ squeezes_S1_S_).sem
    ((aM.slice (Rect.unit (s := S4x8x128) ![2, 0, 0] S1x8x128.size inb_S4x8x128_S1x8x128_2_0_0) (fun _ => rfl)).squeeze S8x128 squeezes_S1x8x128_S8x128)
    ((aM.slice (Rect.unit (s := S4x8x128) ![0, 0, 0] S1x8x128.size inb_S4x8x128_S1x8x128_0_0_0) (fun _ => rfl)).squeeze S8x128 squeezes_S1x8x128_S8x128)
    ((View.wordExact_bits rfl).reshape _ _) ((View.wordExact_bits rfl).reshape _ _))
  Prog.lift (.waitDma2 ((cc0_scratch5.slice (Rect.unit (s := S3) ![2] S1.size inb_S3_S1_2)).squeeze S_ squeezes_S1_S_).sem
    ((aM.slice (Rect.unit (s := S4x8x128) ![1, 0, 0] S1x8x128.size inb_S4x8x128_S1x8x128_1_0_0) (fun _ => rfl)).squeeze S8x128 squeezes_S1x8x128_S8x128)
    ((aM.slice (Rect.unit (s := S4x8x128) ![0, 0, 0] S1x8x128.size inb_S4x8x128_S1x8x128_0_0_0) (fun _ => rfl)).squeeze S8x128 squeezes_S1x8x128_S8x128)
    ((View.wordExact_bits rfl).reshape _ _) ((View.wordExact_bits rfl).reshape _ _))
  pure ⟨⟩

/-- The body is these in sequence. -/
theorem body_groups : cc0_body (F := F) xM (Memref.isWhole_whole _) wM (Memref.isWhole_whole _) oM (Memref.isWhole_whole _) gM (Memref.isWhole_whole _) bM (Memref.isWhole_whole _) aM (Memref.isWhole_whole _) cc0_scratch3 cc0_scratch4 cc0_scratch5 cc0_scratch6 cc0_scratch7 = (do
    let ⟨d0, v2, v116, v127, v130, v131⟩ ← grpSend
    let ⟨v138, v149⟩ ← grp0 d0 v2 v116 v127 v130 v131
    grp1 d0 v127 v138
    let v627 ← grp2 d0 v138 v149
    let ⟨v807, v812, c4_i32_732, v813⟩ ← grp3 d0 v2 v149 v627
    let ⟨v918, v939⟩ ← grpMax d0 v2 v807 v812 c4_i32_732 v813
    let v1053 ← grpQuant v918 v939
    grpEnd d0 v1053) := by
  rw [cc0_body_eq_skeleton]
  unfold cc0_body_skel grpSend grp0 grp1 grp2 grp3 grpMax grpQuant grpEnd
  rw [k0_part37_eq_skeleton]
  unfold k0_part37_skel
  simp only [bind_assoc, pure_bind]

end Cert.KernelIdeal.Exchange

end
-- ==== Proof.Step.lean ====
/-
  What the steps of the product share: the device's holdings between two steps, and the values its stores give.
-/
module

public import proofs.«01_k».proof.Proof.Groups
public import Idealize.ShloMosaic.Lib.Pipeline.Value

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- What a device holds while it multiplies: the weights' transfers of the next two tiles under way, the result's buffer,
    what it owes. -/
def midStep (c : Dev nD) (k : Fin 4) (t : Fin 8 → Vec F S1024x1024 .f32) : sProp 𝕄 :=
  iprop(oPts c (oBuf t) ∗ wFly m ρ c 0 (kb c k) 0 ∗ wFly m ρ c 1 (kb c k) 1 ∗ ∃ W, owes (c : Thread nD τ) (OA c) W)

/-- The wait for the first slot's transfer is below what is owed. -/
theorem mayWait_w0 (c : Dev nD) : (levAts L lv : sProp 𝕄) ⊢ MayWait (c : Thread nD τ) (.dma 15) () (OA c) :=
  mayWait c _ 0 (by decide) ((above_OA c).mono (by decide))
/-- The wait for the second slot's transfer is below what is owed. -/
theorem mayWait_w1 (c : Dev nD) : (levAts L lv : sProp 𝕄) ⊢ MayWait (c : Thread nD τ) (.dma 16) () (OA c) :=
  mayWait c _ 0 (by decide) ((above_OA c).mono (by decide))

/-- The result's buffer after a store of each given block. -/
theorem oPts_filled (c : Dev nD) (f : (cc0_stg1_0 : Ref sig .tc).ty.Contents (Elt F)) (t : Fin 8 → Vec F S1024x1024 .f32) {p0 p1 p2 p3 p4 p5 p6 p7 : Vec F S1024x1024 .f32}
    (h0 : p0 = t 0) (h1 : p1 = t 1) (h2 : p2 = t 2) (h3 : p3 = t 3) (h4 : p4 = t 4) (h5 : p5 = t 5) (h6 : p6 = t 6) (h7 : p7 = t 7) :
    (oM.view.loc (c : Thread nD τ) ↦{fullShare} oM.view.writes (Elt F) f
      [⟨oTile 7, p7⟩, ⟨oTile 6, p6⟩, ⟨oTile 5, p5⟩, ⟨oTile 4, p4⟩, ⟨oTile 3, p3⟩, ⟨oTile 2, p2⟩, ⟨oTile 1, p1⟩, ⟨oTile 0, p0⟩] : sProp 𝕄)
    ⊢ oPts c (oBuf t) := by
  rw [h0, h1, h2, h3, h4, h5, h6, h7, stored_tiles]; exact Entails.rfl

/-- A product with a landed tile of the weights is the part it names. -/
theorem mm_value (c : Dev nD) (s : Fin 2) (b : Dev nD) (n : Fin 8) {off : Fin 2 → ℕ} (h : off = ![1024 * b.val, 1024 * n.val])
    (inb : ∀ a, off a + S1024x1024.size a ≤ S4096x8192.size a) (hs inb' hc) (f : (bSlot s).view.ty.Contents (Elt F)) (L : List (View.Piece (Elt F) S1024x1024 .f32))
    {x : FVec F S1024x1024 .bf16} (hx : x = xblk m ρ b c) :
    mm x (shapeCast S1024x1024 (bM.view.readAt (Elt F) (Rect.unit (s := S2x1024x1024) ![s.val, 0, 0] S1x1024x1024.size inb').toLoadRect
      ((bSlot s).view.writes (Elt F) f (⟨Rect.whole S1024x1024,
            ReadAs.same.apply (View.read (Elt F) (wM.slice (Rect.unit (s := S4096x8192) off S1024x1024.size inb) hs).view (wbuf m ρ c))⟩ :: L))) hc)
      = part m ρ c b n := by
  subst h; rw [load_slot, read_landed, hx]; rfl

/-- The same with a tile under way since the step before. -/
theorem mm_value_fly (c : Dev nD) (s : Fin 2) (b : Dev nD) (n : Fin 8) (inb' hc) (g : (bSlot s).view.ty.Contents (Elt F)) (hg : (bSlot s).view.read (Elt F) g = wblk m ρ c b n)
    {x : FVec F S1024x1024 .bf16} (hx : x = xblk m ρ b c) :
    mm x (shapeCast S1024x1024 (bM.view.readAt (Elt F) (Rect.unit (s := S2x1024x1024) ![s.val, 0, 0] S1x1024x1024.size inb').toLoadRect g) hc)
      = part m ρ c b n := by
  rw [load_slot, hg, hx]; rfl

/-- The product added to what the result's buffer holds. -/
theorem add_value (t : Fin 8 → Vec F S1024x1024 .f32) (n : Fin 8) (inb hc) {y y' : FVec F S1024x1024 .f32} (hy : y = y') :
    addf (shapeCast S1024x1024 (oM.view.readAt (Elt F) (Rect.unit (s := S1024x8192) ![0, 1024 * n.val] S1024x1024.size inb).toLoadRect (oBuf t)) hc) y
      = addf (t n) y' := by
  rw [hy, show oM.view.readAt (Elt F) (Rect.unit (s := S1024x8192) ![0, 1024 * n.val] S1024x1024.size inb).toLoadRect (oBuf t) = t n from load_tile t n]
  exact congrArg (fun z => addf z y') (shapeCast_self (t n) hc)

/-- The device's own rows of its `x`, as the kernel loads them. -/
theorem own_rows (c : Dev nD) {off : Fin 2 → ℕ} (h : off = ![1024 * c.val, 0]) (inb : ∀ a, off a + S1024x1024.size a ≤ S4096x1024.size a) :
    k0_pay1 (xM.view.readAt (Elt F) (Rect.unit (s := S4096x1024) off S1024x1024.size inb).toLoadRect (xstg m ρ c)) = xblk m ρ c c := by
  subst h; exact shapeCast_self _ _

/-- A tile's transfer as the kernel issues it is the tile under way. -/
theorem wFly_of (c : Dev nD) (s : Fin 2) (b : Dev nD) (n : Fin 8) {off : Fin 2 → ℕ} (h : off = ![1024 * b.val, 1024 * n.val])
    (inb : ∀ a, off a + S1024x1024.size a ≤ S4096x8192.size a) (hs) (f : (bSlot s).view.ty.Contents (Elt F)) (L : List (View.Piece (Elt F) S1024x1024 .f32)) :
    iprop(Transfers.Flight countersEmb (c : Thread nD τ) (SemLoc.dma (wSem s)) () 131072
        iprop(((bSlot s).view.loc (c : Thread nD τ) ↦[(bSlot s).view.set]{fullShare} (bSlot s).view.writes (Elt F) f (⟨Rect.whole S1024x1024,
            ReadAs.same.apply (View.read (Elt F) (wM.slice (Rect.unit (s := S4096x8192) off S1024x1024.size inb) hs).view (wbuf m ρ c))⟩ :: L))
          ∗ (wM.view.loc (c : Thread nD τ) ↦[(wM.slice (Rect.unit (s := S4096x8192) off S1024x1024.size inb) hs).view.set]{Transfers.shareTok fullShare 2 s} wbuf m ρ c))
      ∗ (wM.view.loc (c : Thread nD τ) ↦[Finset.univ \ (wM.slice (Rect.unit (s := S4096x8192) off S1024x1024.size inb) hs).view.set]{Transfers.shareTok fullShare 2 s} wbuf m ρ c))
    ⊢ wFly m ρ c s b n := by
  subst h
  unfold wFly
  iintro ⟨H, Hw⟩
  iexists _
  isplitr; · ipureintro; exact read_landed s f _ L
  isplitl [H]; · iexact H
  iexact Hw

end Cert.KernelIdeal.Exchange

end
-- ==== Proof.Step0.lean ====
/-
  The first step of the product: the device's own activations against its eight tiles of the weights.
-/
module

public import proofs.«01_k».proof.Proof.Step

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

set_option maxRecDepth 65536 in
/-- From its own activations, its weights and a result buffer of any contents, the device reaches the state before step 1, every column block holding its first partial product. -/
theorem step0 (c : Dev nD) (v2 v116 v127 v130 v131 : BitVec 32) :
    iprop(levAts L lv ∗ xPts m ρ c c ∗ wTok m ρ c 0 ∗ wTok m ρ c 1 ∗ (∃ f, oPts c f) ∗ (∃ f, bPts c 0 f) ∗ (∃ f, bPts c 1 f)
      ∗ semVal ((c : Thread nD τ), SemLoc.dma 15) 0 ∗ semVal ((c : Thread nD τ), SemLoc.dma 16) 0 ∗ ∃ W, owes (c : Thread nD τ) (OA c) W)
    ⊢ wp frame (wpE (defs₀ (F := F)) 𝒱₀ c none) Set.univ (grp0 (F := F) c v2 v116 v127 v130 v131)
      (fun _ => iprop(xPts m ρ c c ∗ midStep m ρ c 1 fun n => acc m ρ c n 0)) := by
  iintro ⟨#Hlev, Hx, Hw0, Hw1, ⟨%fo, Ho⟩, ⟨%f0, Hb0⟩, ⟨%f1, Hb1⟩, Hs0, Hs1, ⟨%W, HO⟩⟩
  unfold grp0
  rw [k0_part5_eq_skeleton, k0_part6_eq_skeleton, k0_part7_eq_skeleton, k0_part8_eq_skeleton, k0_part9_eq_skeleton, k0_part10_eq_skeleton]
  unfold k0_part5_skel k0_part6_skel k0_part7_skel k0_part8_skel k0_part9_skel k0_part10_skel
  simp only [Prog.lift, Prog.bind_op, Prog.bind_ret, Prog.pure_eq_ret]
  have h15 := mayWait_w0 (F := F) c
  have h16 := mayWait_w1 (F := F) c
  unfold xPts wTok oPts bPts
  sl_exec
  sl_step
  unfold midStep
  isplitl [Hx]; · iexact Hx
  isplitl [Ho]
  · iapply (oPts_filled c _ _ ?_ ?_ ?_ ?_ ?_ ?_ ?_ ?_) $$ Ho
    · exact mm_value m ρ c 0 (kb c 0) 0 (off2_eq c 0) _ _ _ _ _ _ (own_rows m ρ c (k0_off4_eq c) _)
    · exact mm_value m ρ c 1 (kb c 0) 1 (off3_eq c 0) _ _ _ _ _ _ (own_rows m ρ c (k0_off4_eq c) _)
    · exact mm_value m ρ c 0 (kb c 0) 2 (off5_eq c 0) _ _ _ _ _ _ (own_rows m ρ c (k0_off4_eq c) _)
    · exact mm_value m ρ c 1 (kb c 0) 3 (off6_eq c 0) _ _ _ _ _ _ (own_rows m ρ c (k0_off4_eq c) _)
    · exact mm_value m ρ c 0 (kb c 0) 4 (off7_eq c 0) _ _ _ _ _ _ (own_rows m ρ c (k0_off4_eq c) _)
    · exact mm_value m ρ c 1 (kb c 0) 5 (off8_eq c 0) _ _ _ _ _ _ (own_rows m ρ c (k0_off4_eq c) _)
    · exact mm_value m ρ c 0 (kb c 0) 6 (off9_eq c 0) _ _ _ _ _ _ (own_rows m ρ c (k0_off4_eq c) _)
    · exact mm_value m ρ c 1 (kb c 0) 7 (off10_eq c 0) _ _ _ _ _ _ (own_rows m ρ c (k0_off4_eq c) _)
  isplitl [Hs0 Hw0]
  · iapply (wFly_of m ρ c 0 _ _ (off2_eq c 1) _ _ _ _)
    isplitl [Hs0]; · iexact Hs0
    iexact Hw0
  isplitl [Hs1 Hw1]
  · iapply (wFly_of m ρ c 1 _ _ (off3_eq c 1) _ _ _ _)
    isplitl [Hs1]; · iexact Hs1
    iexact Hw1
  iexists _; iexact HO

end Cert.KernelIdeal.Exchange

end
-- ==== Proof.Moves.lean ====
/-
  The exchange's steps at one device: what every device knows of the shared cells, the waits on them, the sends.
-/
module

public import proofs.«01_k».proof.Proof.Step
public import Idealize.ShloMosaic.Lib.Ring

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- Every shared cell runs its schedule, and each has begun its round. -/
def records (K : Dev nD × KC → ℕ) : sProp 𝕄 :=
  bigSep Finset.univ fun ck : Dev nD × KC => iprop(cellInv ER (Rd m ρ) (K ck) (kcell ck) ∗ reached ER (kcell ck) 0)

/-- The cells' records may be used any number of times. -/
instance records_persistent (K : Dev nD × KC → ℕ) : BI.Persistent (records (F := F) m ρ K) := by unfold records; infer_instance

/-- One cell's part of the records. -/
theorem record_at (K : Dev nD × KC → ℕ) (ck : Dev nD × KC) :
    records (F := F) m ρ K ⊢ iprop(cellInv ER (Rd m ρ) (K ck) (kcell ck) ∗ reached ER (kcell ck) 0) :=
  bigSep_elim (Finset.mem_univ ck)

/-- A device about to wait on one of its transfer cells: the units it is promised, and its place in the cell. -/
def due (c : Dev nD) (k : Fin 4 × Fin 3) : sProp 𝕄 :=
  iprop(cred (tallyAt (kcell (c, some k)) () (kAmount (some k))) ∗ atPos ER (kcell (c, some k)) 0 ∅ 0)

/-- A wait on a transfer cell takes what landed there, and leaves the cell back at zero. -/
theorem wp_wait_cell (K : Dev nD × KC → ℕ) (c : Dev nD) (p : Fin 4 × Fin 3) (q : DmaSem sig) (hq : SemLoc.dma q = csem (some p))
    (O : CellTallies nD τ sig Unit) (W : Waits sig Unit) {s : Shape} {e : EltTy} {src dst : Memref sig .tc .vmem s e}
    {hsrc : src.view.WordExact} {hdst : dst.view.WordExact} (hN : dst.view.dmaCredit = kAmount (some p))
    {α : Type} {Q : α → sProp 𝕄} {k : PUnit → Prog (TpuEff nD τ sig (Elt F) Λ₀ .tc) α} :
    iprop(records m ρ K ∗ due c p ∗ owes (c : Thread nD τ) O W ∗ MayWait (c : Thread nD τ) (csem (some p)) () O)
      ⊢ iprop((((∃ W, owes (c : Thread nD τ) O W) ∗ semVal (kcell (c, some p)) 0 ∗ kPay m ρ c (some p) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  obtain ⟨a, d⟩ := p
  injection hq with hq; subst hq
  unfold due
  iintro ⟨#HR, ⟨Hc, Hat⟩, HO, HM⟩ Hk
  ihave #HI := (record_at m ρ K (c, some (a, d))) $$ HR
  icases HI with ⟨#HI, -⟩
  iapply (Rounds.wp_wait_rest_token 𝒱₀ ER (Rd m ρ) (c : Thread nD τ) none (κ := K (c, some (a, d)))
      (wpE_waitDma2_eq 𝒱₀ (c : Thread nD τ) none Set.univ) (Set.mem_univ _) () (O := O) (W := W) (R := 0) (m := 0) (T := ∅)
      (by rw [Nat.zero_add, hN]; exact ((expect_eq m ρ c (some (a, d))).trans (Nat.one_mul _)).symm)) $$ [Hc HO HM Hat]
  · isplitr; · iexact HI
    isplitl [Hc]; · rw [hN]; iexact Hc
    isplitl [HO]; · iexact HO
    isplitl [HM]; · iexact HM
    iexact Hat
  iintro ⟨HO, Hat, -, Hpay⟩
  imod (Rounds.cell_close ER (Rd m ρ) (Set.mem_univ (K (c, some (a, d)))) (fun h => h) (R := 0 + 1) (duties_later m ρ (kcell (c, some (a, d))))) $$ [Hat] with Hz
  · isplitr; · iexact HI
    iexact Hat
  iapply Hk
  isplitl [HO]; · iexists _; iexact HO
  isplitl [Hz]; · iexact Hz
  iapply (Entails.of_eq ((rest_eq m ρ c (some (a, d))).trans (rest_some m ρ c (a, d)))); iexact Hpay

/-- What a send of a device's consumes besides the two blocks: the two duties' tokens, its place known by the records. -/
def sendToks (c : Dev nD) (a : Fin 2) (j : Fin 3) : sProp 𝕄 :=
  iprop(dutyTok ER (kcell (c, some (⟨2 * a.val, by omega⟩, j))) 0 0 ∗ dutyTok ER (kcell (dv c j, some (⟨2 * a.val + 1, by omega⟩, j.rev))) 0 0)

/-- The send of activations to peer `j`: row block `dv c j` of `x` into that peer's slot. -/
theorem wp_send_x (K : Dev nD × KC → ℕ) (c n : Dev nD) (j : Fin 3) (hn : n = dv c j) {off : Fin 2 → ℕ} (hoff : off = ![1024 * (dv c j).val, 0])
    {inb : ∀ a, off a + S1024x1024.size a ≤ S4096x1024.size a} {hs}
    {hsc : (gSlot j.rev : Memref sig (Dev.tc n : Thread nD τ).2.kind .vmem S1024x1024 .bf16).view.ref.isScScratch = false}
    {hsrc : (xM.slice (Rect.unit (s := S4096x1024) off S1024x1024.size inb) hs).view.WordExact} {hdst : (gSlot j.rev).view.WordExact}
    {hsem : DmaTarget.Typed .vmem (csem (kXr j.rev)) (.remote (Dev.tc n : Thread nD τ) (gSlot j.rev) (csem (kXs j)) hsc)}
    {α : Type} {Q : α → sProp 𝕄} {k : PUnit → Prog (TpuEff nD τ sig (Elt F) Λ₀ .tc) α}
    (O : CellTallies nD τ sig Unit) (W : Waits sig Unit) :
    iprop(records m ρ K ∗ xPts m ρ c (dv c j) ∗ (∃ f, gPts (dv c j) j.rev f) ∗ sendToks c 0 j
        ∗ owes (c : Thread nD τ) (O + tallyAt (kcell (dv c j, kXr j.rev)) () Nx) W)
      ⊢ iprop(((cred (tallyAt (kcell (c, kXs j)) () Nx) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xM.slice (Rect.unit (s := S4096x1024) off S1024x1024.size inb) hs)
              (.remote (Dev.tc n : Thread nD τ) (gSlot j.rev) (csem (kXs j)) hsc) (csem (kXr j.rev)) hsrc hdst hsem) k) Q) := by
  subst hn hoff
  unfold xPts sendToks
  iintro ⟨#HR, Hx, ⟨%f, Hg⟩, ⟨Hts, Htr⟩, HO⟩
  ihave #H1 := (record_at m ρ K (c, kXs j)) $$ HR
  icases H1 with ⟨#HI1, #Hr1⟩
  ihave #H2 := (record_at m ρ K (dv c j, kXr j.rev)) $$ HR
  icases H2 with ⟨#HI2, #Hr2⟩
  unfold gPts
  iapply (Rounds.wp_send_pointsTo 𝒱₀ ER (Rd m ρ) (c : Thread nD τ) none (κ₁ := K (c, kXs j)) (κ₂ := K (dv c j, kXr j.rev))
    (r₁ := 0) (r₂ := 0) (d₁ := 0) (d₂ := 0) (fd := f)
    (by rw [duties_eq]; exact Finset.mem_singleton_self _) (by rw [duties_eq]; exact Finset.mem_singleton_self _)
    () () Nx rfl (amount_eq m ρ c (kXs j) 0) (amount_eq m ρ (dv c j) (kXr j.rev) 0) O rfl (W := W)
    (by rw [payload_eq]; exact BI.Entails.refl _)
    (by
      rw [payload_eq]
      show _ ⊢ gLanded m ρ (dv c j) j.rev
      unfold gLanded gPts
      rw [dv_rev]
      iintro H
      iexists f
      rw [← View.write_univ_eq_writes_whole]
      iexact H))
  isplitr; · iexact HI1
  isplitr; · iexact HI2
  isplitl [Hx]; · iexact Hx
  isplitl [Hg]; · iexact Hg
  isplitl [HO]; · iexact HO
  isplitl [Hts]; · iexact Hts
  isplitr; · iexact Hr1
  isplitl [Htr]; · iexact Htr
  iexact Hr2

/-- The landing of a maximum: the slot reads as the sender's own. -/
theorem landed_max (c : Dev nD) (s : Fin 4) (v : F .f32) (f : Buf (Elt F) ((aSlot s).view.loc (c : Thread nD τ))) (g : Buf (Elt F) ((aSlot 0).view.loc (c : Thread nD τ)))
    (hg : ∀ i, g i = v) :
    ((aSlot s).view.loc (c : Thread nD τ) ↦[(aSlot s).view.set]{fullShare} (aSlot s).view.write (Elt F) f ((aSlot 0).view.read (Elt F) g) Finset.univ : sProp 𝕄)
      ⊢ aPts c s fullShare (fun _ => v) := by
  unfold aPts
  refine Entails.of_eq (pointsTo_congr fun i hi => ?_)
  obtain ⟨y, -, rfl⟩ := Finset.mem_map.mp hi
  rw [View.write_emb_of_mem _ _ (Finset.mem_univ y)]
  exact hg _

/-- The send of the device's maximum to peer `j`, lending a third of its share. -/
theorem wp_send_a (K : Dev nD × KC → ℕ) (c n : Dev nD) (j : Fin 3) (hn : n = dv c j)
    {hsc : (aSlot j.rev.succ : Memref sig (Dev.tc n : Thread nD τ).2.kind .vmem S8x128 .f32).view.ref.isScScratch = false}
    {hsrc : (aSlot 0).view.WordExact} {hdst : (aSlot j.rev.succ).view.WordExact}
    {hsem : DmaTarget.Typed .vmem (csem (kAr j.rev)) (.remote (Dev.tc n : Thread nD τ) (aSlot j.rev.succ) (csem (kAs j)) hsc)}
    {α : Type} {Q : α → sProp 𝕄} {k : PUnit → Prog (TpuEff nD τ sig (Elt F) Λ₀ .tc) α}
    (O : CellTallies nD τ sig Unit) (W : Waits sig Unit) :
    iprop(records m ρ K ∗ aHold m ρ c 0 (third j) c ∗ (∃ f, aPts (dv c j) j.rev.succ fullShare f) ∗ sendToks c 1 j
        ∗ owes (c : Thread nD τ) (O + tallyAt (kcell (dv c j, kAr j.rev)) () Na) W)
      ⊢ iprop(((cred (tallyAt (kcell (c, kAs j)) () Na) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (aSlot 0) (.remote (Dev.tc n : Thread nD τ) (aSlot j.rev.succ) (csem (kAs j)) hsc) (csem (kAr j.rev)) hsrc hdst hsem) k) Q) := by
  subst hn
  unfold sendToks
  iintro ⟨#HR, Hx, ⟨%f, Hg⟩, ⟨Hts, Htr⟩, HO⟩
  ihave #H1 := (record_at m ρ K (c, kAs j)) $$ HR
  icases H1 with ⟨#HI1, #Hr1⟩
  ihave #H2 := (record_at m ρ K (dv c j, kAr j.rev)) $$ HR
  icases H2 with ⟨#HI2, #Hr2⟩
  unfold aHold aPts
  iapply (Rounds.wp_send_pointsTo 𝒱₀ ER (Rd m ρ) (c : Thread nD τ) none (κ₁ := K (c, kAs j)) (κ₂ := K (dv c j, kAr j.rev))
    (r₁ := 0) (r₂ := 0) (d₁ := 0) (d₂ := 0) (fd := f)
    (by rw [duties_eq]; exact Finset.mem_singleton_self _) (by rw [duties_eq]; exact Finset.mem_singleton_self _)
    () () Na rfl (amount_eq m ρ c (kAs j) 0) (amount_eq m ρ (dv c j) (kAr j.rev) 0) O rfl (W := W)
    (by rw [payload_eq]; exact BI.Entails.refl _)
    (by
      rw [payload_eq]
      show _ ⊢ aHold m ρ (dv c j) j.rev.succ fullShare (dv (dv c j) j.rev)
      rw [dv_rev]
      exact landed_max (dv c j) _ _ _ _ fun _ => rfl))
  isplitr; · iexact HI1
  isplitr; · iexact HI2
  isplitl [Hx]; · iexact Hx
  isplitl [Hg]; · iexact Hg
  isplitl [HO]; · iexact HO
  isplitl [Hts]; · iexact Hts
  isplitr; · iexact Hr1
  isplitl [Htr]; · iexact Htr
  iexact Hr2

end Cert.KernelIdeal.Exchange

end
-- ==== Proof.Step1.lean ====
/-
  The second step of the product: peer 0's activations, added to the first step's result.
-/
module

public import proofs.«01_k».proof.Proof.Moves

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- Slot `s` of the gathered activations, reading as the block that came from peer `s`. -/
def gHeld (c : Dev nD) (s : Fin 3) : sProp 𝕄 :=
  iprop(∃ f, ⌜(gSlot s).view.read (Elt F) f = xblk m ρ (dv c s) c⌝ ∗ gPts c s f)

/-- What a landing hands over is such a slot. -/
theorem gHeld_intro (c : Dev nD) (s : Fin 3) : kPay m ρ c (kXr s) 0 ⊢ gHeld m ρ c s := by
  show gLanded m ρ c s ⊢ _
  unfold gLanded gHeld
  iintro ⟨%f, H⟩
  iexists _
  isplitr
  swap; · iexact H
  ipureintro
  rw [← View.write_univ_eq_writes_whole, View.read_write_univ]

/-- Landed activations, as the kernel loads them. -/
theorem slot_rows (s : Fin 3) (inb hc) (f : (gSlot s).view.ty.Contents (Elt F)) {x : Vec F S1024x1024 .bf16} (h : (gSlot s).view.read (Elt F) f = x) :
    shapeCast S1024x1024 (gM.view.readAt (Elt F) (Rect.unit (s := S3x1024x1024) ![s.val, 0, 0] S1x1024x1024.size inb).toLoadRect f) hc = x :=
  Eq.trans (b := (gSlot s).view.read (Elt F) f) rfl h

/-- A device may wait for an activation block while it owes only maxima. -/
theorem mayWait_x (c : Dev nD) (s : Fin 3) : (levAts L lv : sProp 𝕄) ⊢ MayWait (c : Thread nD τ) (csem (kXr s)) () (OA c) :=
  mayWait c _ 2 (by rw [keyOf_csem]; exact le_refl 2) (above_OA c)

/-- What the second step leaves. -/
def afterStep1 (c : Dev nD) : sProp 𝕄 :=
  iprop(gHeld m ρ c 0 ∗ gHeld m ρ c 2 ∗ semVal (kcell (c, kXr 0)) 0 ∗ semVal (kcell (c, kXr 2)) 0
    ∗ midStep m ρ c 2 fun n => acc m ρ c n 1)

set_option maxHeartbeats 1600000 in
set_option maxRecDepth 65536 in
/-- The second step, with the wait for peer 2's activations at its end. -/
theorem step1 (K : Dev nD × KC → ℕ) (c : Dev nD) (v127 v138 : BitVec 32) :
    iprop(levAts L lv ∗ records m ρ K ∗ due c (1, 0) ∗ due c (1, 2) ∗ midStep m ρ c 1 fun n => acc m ρ c n 0)
    ⊢ wp frame (wpE (defs₀ (F := F)) 𝒱₀ c none) Set.univ (grp1 (F := F) c v127 v138)
      (fun _ => afterStep1 m ρ c) := by
  iintro ⟨#Hlev, #HR, Hd0, Hd2, Hm⟩
  unfold grp1
  rw [k0_part11_eq_skeleton, k0_part12_eq_skeleton, k0_part13_eq_skeleton, k0_part14_eq_skeleton, k0_part15_eq_skeleton, k0_part16_eq_skeleton]
  unfold k0_part11_skel k0_part12_skel k0_part13_skel k0_part14_skel k0_part15_skel k0_part16_skel
  simp only [Prog.lift, Prog.bind_op, Prog.bind_ret, Prog.pure_eq_ret]
  have h15 := mayWait_w0 (F := F) c
  have h16 := mayWait_w1 (F := F) c
  unfold midStep
  icases Hm with ⟨Ho, Hf0, Hf1, ⟨%W, HO⟩⟩
  iapply (wp_wait_cell m ρ K c (1, 0) _ rfl (OA c) W (src := gSlot 0) (dst := gSlot 0) rfl) $$ [Hd0 HO]
  · isplitr; · iexact HR
    isplitl [Hd0]; · iexact Hd0
    isplitl [HO]; · iexact HO
    iapply (mayWait_x c 0); iexact Hlev
  iintro ⟨⟨%W1, HO⟩, Hz0, Hg0⟩
  unfold wFly
  icases Hf0 with ⟨%g0, %hg0, Hs0, Hw0⟩
  icases Hf1 with ⟨%g1, %hg1, Hs1, Hw1⟩
  ihave Hg0 := (gHeld_intro m ρ c 0) $$ Hg0
  unfold gHeld
  icases Hg0 with ⟨%f0, %hf0, Hg0⟩
  have hv : k0_pay10 (gM.view.readAt (Elt F) (Rect.unit (s := S3x1024x1024) ![0, 0, 0] S1x1024x1024.size inb_S3x1024x1024_S1x1024x1024_0_0_0).toLoadRect f0)
      = xblk m ρ (kb c 1) c := slot_rows 0 _ _ f0 hf0
  unfold gPts oPts
  sl_exec
  iapply (wp_wait_cell m ρ K c (1, 2) _ rfl (OA c) _ (src := gSlot 2) (dst := gSlot 2) rfl) $$ [Hd2 HO]
  · isplitr; · iexact HR
    isplitl [Hd2]; · iexact Hd2
    isplitl [HO]; · iexact HO
    iapply (mayWait_x c 2); iexact Hlev
  iintro ⟨⟨%W2, HO⟩, Hz2, Hg2⟩
  sl_step
  unfold afterStep1
  isplitl [Hg0]
  · unfold gHeld gPts
    iexists f0
    isplitr; · ipureintro; exact hf0
    iexact Hg0
  isplitl [Hg2]; · iapply (gHeld_intro m ρ c 2); iexact Hg2
  isplitl [Hz0]; · iexact Hz0
  isplitl [Hz2]; · iexact Hz2
  unfold midStep
  isplitl [Ho]
  · iapply (oPts_filled c _ (fun n => acc m ρ c n 1) ?_ ?_ ?_ ?_ ?_ ?_ ?_ ?_) $$ Ho
    · exact add_value (fun n => acc m ρ c n 0) 0 _ _ (mm_value_fly m ρ c 0 (kb c 1) 0 _ _ g0 hg0 hv)
    · exact add_value (fun n => acc m ρ c n 0) 1 _ _ (mm_value_fly m ρ c 1 (kb c 1) 1 _ _ g1 hg1 hv)
    · exact add_value (fun n => acc m ρ c n 0) 2 _ _ (mm_value m ρ c 0 (kb c 1) 2 (off5_eq c 1) _ _ _ _ _ _ hv)
    · exact add_value (fun n => acc m ρ c n 0) 3 _ _ (mm_value m ρ c 1 (kb c 1) 3 (off6_eq c 1) _ _ _ _ _ _ hv)
    · exact add_value (fun n => acc m ρ c n 0) 4 _ _ (mm_value m ρ c 0 (kb c 1) 4 (off7_eq c 1) _ _ _ _ _ _ hv)
    · exact add_value (fun n => acc m ρ c n 0) 5 _ _ (mm_value m ρ c 1 (kb c 1) 5 (off8_eq c 1) _ _ _ _ _ _ hv)
    · exact add_value (fun n => acc m ρ c n 0) 6 _ _ (mm_value m ρ c 0 (kb c 1) 6 (off9_eq c 1) _ _ _ _ _ _ hv)
    · exact add_value (fun n => acc m ρ c n 0) 7 _ _ (mm_value m ρ c 1 (kb c 1) 7 (off10_eq c 1) _ _ _ _ _ _ hv)
  isplitl [Hs0 Hw0]
  · iapply (wFly_of m ρ c 0 _ _ (off2_eq c 2) _ _ _ _)
    isplitl [Hs0]; · iexact Hs0
    iexact Hw0
  isplitl [Hs1 Hw1]
  · iapply (wFly_of m ρ c 1 _ _ (off3_eq c 2) _ _ _ _)
    isplitl [Hs1]; · iexact Hs1
    iexact Hw1
  iexists _; iexact HO

end Cert.KernelIdeal.Exchange

end
-- ==== Proof.Step2.lean ====
/-
  The third step of the product: peer 2's activations.
-/
module

public import proofs.«01_k».proof.Proof.Step1

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- What the third step leaves, the activations it loaded for the fourth among it. -/
def afterStep2 (c : Dev nD) (v : FVec F S1024x1024 .bf16) : sProp 𝕄 :=
  iprop(⌜v = xblk m ρ (dv c 1) c⌝ ∗ gHeld m ρ c 2 ∗ gHeld m ρ c 1 ∗ semVal (kcell (c, kXr 1)) 0
    ∗ midStep m ρ c 3 fun n => acc m ρ c n 2)

set_option maxHeartbeats 1600000 in
set_option maxRecDepth 65536 in
/-- The third step, with the wait for peer 1's activations and their load at its end. -/
theorem step2 (K : Dev nD × KC → ℕ) (c : Dev nD) (v138 v149 : BitVec 32) :
    iprop(levAts L lv ∗ records m ρ K ∗ due c (1, 1) ∗ gHeld m ρ c 2 ∗ midStep m ρ c 2 fun n => acc m ρ c n 1)
    ⊢ wp frame (wpE (defs₀ (F := F)) 𝒱₀ c none) Set.univ (grp2 (F := F) c v138 v149) (afterStep2 m ρ c) := by
  iintro ⟨#Hlev, #HR, Hd, Hg2, Hm⟩
  unfold grp2
  rw [k0_part17_eq_skeleton, k0_part18_eq_skeleton, k0_part19_eq_skeleton, k0_part20_eq_skeleton, k0_part21_eq_skeleton, k0_part22_eq_skeleton]
  unfold k0_part17_skel k0_part18_skel k0_part19_skel k0_part20_skel k0_part21_skel k0_part22_skel
  simp only [Prog.lift, Prog.bind_op, Prog.bind_ret, Prog.pure_eq_ret]
  have h15 := mayWait_w0 (F := F) c
  have h16 := mayWait_w1 (F := F) c
  unfold midStep
  icases Hm with ⟨Ho, Hf0, Hf1, ⟨%W, HO⟩⟩
  unfold wFly
  icases Hf0 with ⟨%g0, %hg0, Hs0, Hw0⟩
  icases Hf1 with ⟨%g1, %hg1, Hs1, Hw1⟩
  unfold gHeld
  icases Hg2 with ⟨%f2, %hf2, Hg2⟩
  have hv : k0_pay21 (gM.view.readAt (Elt F) (Rect.unit (s := S3x1024x1024) ![2, 0, 0] S1x1024x1024.size inb_S3x1024x1024_S1x1024x1024_2_0_0).toLoadRect f2)
      = xblk m ρ (kb c 2) c := slot_rows 2 _ _ f2 hf2
  unfold gPts oPts
  sl_exec
  iapply (wp_wait_cell m ρ K c (1, 1) _ rfl (OA c) _ (src := gSlot 1) (dst := gSlot 1) rfl) $$ [Hd HO]
  · isplitr; · iexact HR
    isplitl [Hd]; · iexact Hd
    isplitl [HO]; · iexact HO
    iapply (mayWait_x c 1); iexact Hlev
  iintro ⟨⟨%W2, HO⟩, Hz, Hg1⟩
  ihave Hg1 := (gHeld_intro m ρ c 1) $$ Hg1
  unfold gHeld
  icases Hg1 with ⟨%f1, %hf1, Hg1⟩
  unfold gPts
  sl_exec
  sl_step
  unfold afterStep2
  isplitr; · ipureintro; exact slot_rows 1 _ _ f1 hf1
  isplitl [Hg2]
  · unfold gHeld gPts
    iexists f2
    isplitr; · ipureintro; exact hf2
    iexact Hg2
  isplitl [Hg1]
  · unfold gHeld gPts
    iexists f1
    isplitr; · ipureintro; exact hf1
    iexact Hg1
  isplitl [Hz]; · iexact Hz
  unfold midStep
  isplitl [Ho]
  · iapply (oPts_filled c _ (fun n => acc m ρ c n 2) ?_ ?_ ?_ ?_ ?_ ?_ ?_ ?_) $$ Ho
    · exact add_value (fun n => acc m ρ c n 1) 0 _ _ (mm_value_fly m ρ c 0 (kb c 2) 0 _ _ g0 hg0 hv)
    · exact add_value (fun n => acc m ρ c n 1) 1 _ _ (mm_value_fly m ρ c 1 (kb c 2) 1 _ _ g1 hg1 hv)
    · exact add_value (fun n => acc m ρ c n 1) 2 _ _ (mm_value m ρ c 0 (kb c 2) 2 (off5_eq c 2) _ _ _ _ _ _ hv)
    · exact add_value (fun n => acc m ρ c n 1) 3 _ _ (mm_value m ρ c 1 (kb c 2) 3 (off6_eq c 2) _ _ _ _ _ _ hv)
    · exact add_value (fun n => acc m ρ c n 1) 4 _ _ (mm_value m ρ c 0 (kb c 2) 4 (off7_eq c 2) _ _ _ _ _ _ hv)
    · exact add_value (fun n => acc m ρ c n 1) 5 _ _ (mm_value m ρ c 1 (kb c 2) 5 (off8_eq c 2) _ _ _ _ _ _ hv)
    · exact add_value (fun n => acc m ρ c n 1) 6 _ _ (mm_value m ρ c 0 (kb c 2) 6 (off9_eq c 2) _ _ _ _ _ _ hv)
    · exact add_value (fun n => acc m ρ c n 1) 7 _ _ (mm_value m ρ c 1 (kb c 2) 7 (off10_eq c 2) _ _ _ _ _ _ hv)
  isplitl [Hs0 Hw0]
  · iapply (wFly_of m ρ c 0 _ _ (off2_eq c 3) _ _ _ _)
    isplitl [Hs0]; · iexact Hs0
    iexact Hw0
  isplitl [Hs1 Hw1]
  · iapply (wFly_of m ρ c 1 _ _ (off3_eq c 3) _ _ _ _)
    isplitl [Hs1]; · iexact Hs1
    iexact Hw1
  iexists _; iexact HO

end Cert.KernelIdeal.Exchange

end
-- ==== Proof.Step3.lean ====
/-
  The fourth step of the product: peer 1's activations, and the device's maximum over its result.
-/
module

public import proofs.«01_k».proof.Proof.Moves

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The running maximum over eight column blocks, as the kernel nests it. -/
theorem max_eight (c : Dev nD) {p0 p1 p2 p3 p4 p5 p6 p7 : FVec F S1024x1024 .f32} (h0 : p0 = acc m ρ c 0 3) (h1 : p1 = acc m ρ c 1 3)
    (h2 : p2 = acc m ρ c 2 3) (h3 : p3 = acc m ρ c 3 3) (h4 : p4 = acc m ρ c 4 3) (h5 : p5 = acc m ρ c 5 3) (h6 : p6 = acc m ρ c 6 3) (h7 : p7 = acc m ρ c 7 3) :
    Scalar.maximumf (Scalar.maximumf (Scalar.maximumf (Scalar.maximumf (Scalar.maximumf (Scalar.maximumf (Scalar.maximumf (Scalar.maximumf
      (Scalar.ofBits .f32 0x00000000#32) (tmax p0)) (tmax p1)) (tmax p2)) (tmax p3)) (tmax p4)) (tmax p5)) (tmax p6)) (tmax p7) = amax m ρ c := by
  rw [h0, h1, h2, h3, h4, h5, h6, h7]; rfl

/-- A store of one value throughout slot 0 of the maxima. -/
theorem stored_max (f : (aM).view.ty.Contents (Elt F)) (inb) (p : Vec F S1x8x128 .f32) (v : F .f32) (hp : ∀ i, p i = v) :
    ∀ i ∈ (aSlot 0).view.set, aM.view.writes (Elt F) f [⟨Rect.unit (s := S4x8x128) ![0, 0, 0] S1x8x128.size inb, p⟩] i = v := by
  intro i hi
  rw [View.writes_singleton]
  have hi' : i ∈ (aM.view.slice (Rect.unit (s := S4x8x128) ![0, 0, 0] S1x8x128.size inb)).set :=
    (Finset.ext_iff.mp (View.set_reshape (aM.view.slice (Rect.unit (s := S4x8x128) ![0, 0, 0] S1x8x128.size inb)) (Shape.Squeezes.numel_eq squeezes_S1x8x128_S8x128)) i).mp hi
  obtain ⟨z, -, rfl⟩ := Finset.mem_map.mp hi'
  rw [View.write_emb_of_mem _ _ (Finset.mem_univ z)]
  exact hp z

/-- Slot 0 of the maxima, holding one value throughout. -/
theorem aHold_of (c : Dev nD) (f : Buf (Elt F) ((aSlot 0).view.loc (c : Thread nD τ))) (h : ∀ i ∈ (aSlot 0).view.set, f i = amax m ρ c) :
    ((aSlot 0).view.loc (c : Thread nD τ) ↦[(aSlot 0).view.set]{fullShare} f : sProp 𝕄) ⊢ aHold m ρ c 0 fullShare c := by
  unfold aHold aPts
  exact Entails.of_eq (pointsTo_congr h)

/-- What the fourth step leaves: the device's maximum known and stored, the weights back whole. -/
def afterStep3 (c : Dev nD) (v : F .f32) : sProp 𝕄 :=
  iprop(⌜v = amax m ρ c⌝ ∗ aHold m ρ c 0 fullShare c ∗ oPts c (oBuf fun n => acc m ρ c n 3) ∗ wTok m ρ c 0 ∗ wTok m ρ c 1
    ∗ (∃ f, bPts c 0 f) ∗ (∃ f, bPts c 1 f) ∗ semVal ((c : Thread nD τ), SemLoc.dma 15) 0 ∗ semVal ((c : Thread nD τ), SemLoc.dma 16) 0
    ∗ ∃ W, owes (c : Thread nD τ) (OA c) W)

set_option maxHeartbeats 1600000 in
set_option maxRecDepth 65536 in
/-- The fourth step. -/
theorem step3 (c : Dev nD) (v2 v149 : BitVec 32) (v627 : FVec F S1024x1024 .bf16) (hv : v627 = xblk m ρ (dv c 1) c) :
    iprop(levAts L lv ∗ (∃ f, aPts c 0 fullShare f) ∗ midStep m ρ c 3 fun n => acc m ρ c n 2)
    ⊢ wp frame (wpE (defs₀ (F := F)) 𝒱₀ c none) Set.univ (grp3 (F := F) c v2 v149 v627) (fun r => afterStep3 m ρ c r.1) := by
  iintro ⟨#Hlev, ⟨%fa, Ha⟩, Hm⟩
  unfold grp3
  rw [k0_part23_eq_skeleton, k0_part24_eq_skeleton, k0_part25_eq_skeleton, k0_part26_eq_skeleton, k0_part27_eq_skeleton, k0_part28_eq_skeleton]
  unfold k0_part23_skel k0_part24_skel k0_part25_skel k0_part26_skel k0_part27_skel k0_part28_skel
  simp only [Prog.lift, Prog.bind_op, Prog.bind_ret, Prog.pure_eq_ret]
  have h15 := mayWait_w0 (F := F) c
  have h16 := mayWait_w1 (F := F) c
  unfold midStep
  icases Hm with ⟨Ho, Hf0, Hf1, ⟨%W, HO⟩⟩
  unfold wFly
  icases Hf0 with ⟨%g0, %hg0, Hs0, Hw0⟩
  icases Hf1 with ⟨%g1, %hg1, Hs1, Hw1⟩
  unfold oPts aPts
  sl_exec
  sl_step
  unfold afterStep3
  isplitr
  · ipureintro
    exact max_eight m ρ c
      (add_value (fun n => acc m ρ c n 2) 0 _ _ (mm_value_fly m ρ c 0 (kb c 3) 0 _ _ g0 hg0 hv))
      (add_value (fun n => acc m ρ c n 2) 1 _ _ (mm_value_fly m ρ c 1 (kb c 3) 1 _ _ g1 hg1 hv))
      (add_value (fun n => acc m ρ c n 2) 2 _ _ (mm_value m ρ c 0 (kb c 3) 2 (off5_eq c 3) _ _ _ _ _ _ hv))
      (add_value (fun n => acc m ρ c n 2) 3 _ _ (mm_value m ρ c 1 (kb c 3) 3 (off6_eq c 3) _ _ _ _ _ _ hv))
      (add_value (fun n => acc m ρ c n 2) 4 _ _ (mm_value m ρ c 0 (kb c 3) 4 (off7_eq c 3) _ _ _ _ _ _ hv))
      (add_value (fun n => acc m ρ c n 2) 5 _ _ (mm_value m ρ c 1 (kb c 3) 5 (off8_eq c 3) _ _ _ _ _ _ hv))
      (add_value (fun n => acc m ρ c n 2) 6 _ _ (mm_value m ρ c 0 (kb c 3) 6 (off9_eq c 3) _ _ _ _ _ _ hv))
      (add_value (fun n => acc m ρ c n 2) 7 _ _ (mm_value m ρ c 1 (kb c 3) 7 (off10_eq c 3) _ _ _ _ _ _ hv))
  isplitl [Ha]
  · iapply (aHold_of m ρ c _ ?_) $$ Ha
    refine stored_max fa inb_S4x8x128_S1x8x128_0_0_0 _ _ fun i => ?_
    exact max_eight m ρ c
      (add_value (fun n => acc m ρ c n 2) 0 _ _ (mm_value_fly m ρ c 0 (kb c 3) 0 _ _ g0 hg0 hv))
      (add_value (fun n => acc m ρ c n 2) 1 _ _ (mm_value_fly m ρ c 1 (kb c 3) 1 _ _ g1 hg1 hv))
      (add_value (fun n => acc m ρ c n 2) 2 _ _ (mm_value m ρ c 0 (kb c 3) 2 (off5_eq c 3) _ _ _ _ _ _ hv))
      (add_value (fun n => acc m ρ c n 2) 3 _ _ (mm_value m ρ c 1 (kb c 3) 3 (off6_eq c 3) _ _ _ _ _ _ hv))
      (add_value (fun n => acc m ρ c n 2) 4 _ _ (mm_value m ρ c 0 (kb c 3) 4 (off7_eq c 3) _ _ _ _ _ _ hv))
      (add_value (fun n => acc m ρ c n 2) 5 _ _ (mm_value m ρ c 1 (kb c 3) 5 (off8_eq c 3) _ _ _ _ _ _ hv))
      (add_value (fun n => acc m ρ c n 2) 6 _ _ (mm_value m ρ c 0 (kb c 3) 6 (off9_eq c 3) _ _ _ _ _ _ hv))
      (add_value (fun n => acc m ρ c n 2) 7 _ _ (mm_value m ρ c 1 (kb c 3) 7 (off10_eq c 3) _ _ _ _ _ _ hv))
  isplitl [Ho]
  · iapply (oPts_filled c _ (fun n => acc m ρ c n 3) ?_ ?_ ?_ ?_ ?_ ?_ ?_ ?_) $$ Ho
    · exact (add_value (fun n => acc m ρ c n 2) 0 _ _ (mm_value_fly m ρ c 0 (kb c 3) 0 _ _ g0 hg0 hv))
    · exact (add_value (fun n => acc m ρ c n 2) 1 _ _ (mm_value_fly m ρ c 1 (kb c 3) 1 _ _ g1 hg1 hv))
    · exact (add_value (fun n => acc m ρ c n 2) 2 _ _ (mm_value m ρ c 0 (kb c 3) 2 (off5_eq c 3) _ _ _ _ _ _ hv))
    · exact (add_value (fun n => acc m ρ c n 2) 3 _ _ (mm_value m ρ c 1 (kb c 3) 3 (off6_eq c 3) _ _ _ _ _ _ hv))
    · exact (add_value (fun n => acc m ρ c n 2) 4 _ _ (mm_value m ρ c 0 (kb c 3) 4 (off7_eq c 3) _ _ _ _ _ _ hv))
    · exact (add_value (fun n => acc m ρ c n 2) 5 _ _ (mm_value m ρ c 1 (kb c 3) 5 (off8_eq c 3) _ _ _ _ _ _ hv))
    · exact (add_value (fun n => acc m ρ c n 2) 6 _ _ (mm_value m ρ c 0 (kb c 3) 6 (off9_eq c 3) _ _ _ _ _ _ hv))
    · exact (add_value (fun n => acc m ρ c n 2) 7 _ _ (mm_value m ρ c 1 (kb c 3) 7 (off10_eq c 3) _ _ _ _ _ _ hv))
  unfold wTok bPts
  isplitl [Hw0]; · iexact Hw0
  isplitl [Hw1]; · iexact Hw1
  isplitl [Hs0_dst]; · iexists _; iexact Hs0_dst
  isplitl [Hs1_dst]; · iexists _; iexact Hs1_dst
  isplitl [Hs0]; · iexact Hs0
  isplitl [Hs1]; · iexact Hs1
  iexists _; iexact HO

end Cert.KernelIdeal.Exchange

end
-- ==== Proof.Handshake.lean ====
/-
  The handshake and the sends of the activations: what each device gives its peers with its barrier units, and what it
  gets with theirs.
-/
module

public import proofs.«01_k».proof.Proof.Moves

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- One thing for each peer. -/
def each (Φ : Fin 3 → sProp 𝕄) : sProp 𝕄 := iprop(Φ 0 ∗ Φ 1 ∗ Φ 2)

omit [FloatOps F] in
/-- What `c`'s unit hands its peer `j` are `c`'s own landing slots for that peer. -/
theorem barPay_eq (c : Dev nD) (j : Fin 3) :
    (barPay (dv c j) j.rev : sProp 𝕄) = iprop((∃ f, gPts (F := F) c j f) ∗ ∃ f, aPts (F := F) c j.succ fullShare f) := by
  unfold barPay; rw [dv_rev, Fin.rev_rev]

/-- The barrier unit to peer `j`. -/
theorem wp_signal_peer (K : Dev nD × KC → ℕ) (c n : Dev nD) (j : Fin 3) (hn : n = dv c j) {k' : ℕ} (hk' : k' = 1)
    {α : Type} {Q : α → sProp 𝕄} {k : PUnit → Prog (TpuEff nD τ sig (Elt F) Λ₀ .tc) α}
    (O : CellTallies nD τ sig Unit) (W : Waits sig Unit) :
    iprop(records m ρ K ∗ (∃ f, gPts c j f) ∗ (∃ f, aPts c j.succ fullShare f) ∗ dutyTok ER (kcell (dv c j, kBar)) 0 j.rev
        ∗ owes (c : Thread nD τ) (O + tallyAt (kcell (dv c j, kBar)) () 1) W)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk'
  iintro ⟨#HR, Hg, Ha, Ht, HO⟩ Hk
  ihave #H1 := (record_at m ρ K (dv c j, kBar)) $$ HR
  icases H1 with ⟨#HI, #Hr⟩
  iapply (Rounds.wp_signal 𝒱₀ ER (Rd m ρ) (c : Thread nD τ) none (dst := (dv c j : Thread nD τ)) (κ := K (dv c j, kBar))
      (d := j.rev) (by rw [duties_eq m ρ (dv c j) kBar]; exact Finset.mem_univ _) ((amount_eq m ρ (dv c j) kBar j.rev).trans (by decide)) () O rfl) $$ [HO Ht Hg Ha]
  · isplitr; · iexact HI
    isplitl [HO]; · iexact HO
    isplitl [Ht]; · iexact Ht
    isplitl [Hg Ha]
    · rw [show (Rd m ρ).payload (kcell (dv c j, kBar)) 0 j.rev = barPay (dv c j) j.rev from payload_eq m ρ (dv c j) kBar j.rev]
      iapply (Entails.of_eq (barPay_eq c j).symm)
      isplitl [Hg]; · iexact Hg
      iexact Ha
    · iexact Hr
  iexact Hk

/-- The wait for the three units gives the landing slots of all three peers, and leaves the barrier back at zero. -/
theorem wp_wait_bar (K : Dev nD × KC → ℕ) (c : Dev nD) {k' : ℕ} (hk' : k' = 3)
    {α : Type} {Q : α → sProp 𝕄} {k : PUnit → Prog (TpuEff nD τ sig (Elt F) Λ₀ .tc) α} (O : CellTallies nD τ sig Unit) (W : Waits sig Unit) :
    iprop(records m ρ K ∗ cred (tallyAt (kcell (c, kBar)) () 3) ∗ atPos ER (kcell (c, kBar)) 0 ∅ 0 ∗ owes (c : Thread nD τ) O W
        ∗ MayWait (c : Thread nD τ) (csem kBar) () O)
      ⊢ iprop((((∃ W, owes (c : Thread nD τ) O W) ∗ semVal (kcell (c, kBar)) 0 ∗ each (fun j => barPay c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, Hc, Hat, HO, HM⟩ Hk
  ihave #H1 := (record_at m ρ K (c, kBar)) $$ HR
  icases H1 with ⟨#HI, -⟩
  iapply (Rounds.wp_wait_rest_token 𝒱₀ ER (Rd m ρ) (c : Thread nD τ) none (κ := K (c, kBar))
      (wpE_semWait_eq 𝒱₀ (c : Thread nD τ) none Set.univ) (Set.mem_univ _) () (O := O) (W := W) (R := 0) (m := 0) (T := ∅)
      (by rw [Nat.zero_add]; exact (expect_eq m ρ c kBar).symm)) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER (Rd m ρ) (Set.mem_univ (K (c, kBar))) (fun h => h) (R := 0 + 1) (duties_later m ρ (kcell (c, kBar)))) $$ [Hat] with Hz
  · isplitr; · iexact HI
    iexact Hat
  iapply Hk
  isplitl [HO]; · iexists _; iexact HO
  isplitl [Hz]; · iexact Hz
  ihave H3 := (Entails.of_eq (rest_eq m ρ c kBar)) $$ Hpay
  ihave H4 := (Entails.of_eq (show bigSep (kDuties kBar) (kPay m ρ c kBar) = each (fun j => barPay c j) by
    show bigSep Finset.univ (kPay m ρ c kBar) = _; rw [Ring.bigSep_fin3]; rfl)) $$ H3
  iexact H4

/-- A device may wait at its barrier while it owes activations and maxima. -/
theorem mayWait_bar (c : Dev nD) : (levAts L lv : sProp 𝕄) ⊢ MayWait (c : Thread nD τ) (csem kBar) () (OX c) :=
  mayWait c _ 1 (by rw [keyOf_csem]; exact le_refl 1) (above_OX c)

/-- The three row blocks of `x` that are sent are those of the three peers. -/
theorem off1_at (c : Dev nD) : k0_off1 c 1#32 = ![1024 * (dv c 0).val, 0] ∧ k0_off1 c 2#32 = ![1024 * (dv c 1).val, 0] ∧ k0_off1 c 3#32 = ![1024 * (dv c 2).val, 0] :=
  ⟨off1_eq c 0, off1_eq c 1, off1_eq c 2⟩

/-- What a device starts the handshake with. -/
def beforeSend (c : Dev nD) : sProp 𝕄 :=
  iprop(each (fun j => iprop(∃ f, gPts (F := F) c j f)) ∗ each (fun j => iprop(∃ f, aPts (F := F) c j.succ fullShare f))
    ∗ each (fun j => dutyTok ER (kcell (dv c j, kBar)) 0 j.rev) ∗ cred (tallyAt (kcell (c, kBar)) () 3) ∗ atPos ER (kcell (c, kBar)) 0 ∅ 0
    ∗ each (fun j => xPts m ρ c (dv c j)) ∗ each (sendToks c 0) ∗ ∃ W, owes (c : Thread nD τ) (O₀ c) W)

/-- What it has once the activations are on their way. -/
def afterSend (c d : Dev nD) : sProp 𝕄 :=
  iprop(⌜d = c⌝ ∗ semVal (kcell (c, kBar)) 0 ∗ each (fun j => cred (tallyAt (kcell (c, kXs j)) () Nx))
    ∗ each (fun j => iprop(∃ f, aPts (F := F) (dv c j) j.rev.succ fullShare f)) ∗ ∃ W, owes (c : Thread nD τ) (OA c) W)

set_option maxHeartbeats 1600000 in
set_option maxRecDepth 65536 in
/-- The handshake and the sends. -/
theorem stepSend (K : Dev nD × KC → ℕ) (c : Dev nD) :
    iprop(levAts L lv ∗ records m ρ K ∗ beforeSend m ρ c)
    ⊢ wp frame (wpE (defs₀ (F := F)) 𝒱₀ c none) Set.univ (grpSend (F := F)) (fun r => afterSend c r.1) := by
  iintro ⟨#Hlev, #HR, Hb⟩
  unfold grpSend
  rw [k0_part1_eq_skeleton]
  unfold k0_part1_skel
  simp only [k0_part2_eq_skeleton, k0_part3_eq_skeleton, k0_part4_eq_skeleton]
  unfold k0_part2_skel k0_part3_skel k0_part4_skel
  simp only [semSignalWord, semWaitWord, Prog.lift, Prog.bind_op, Prog.bind_ret, Prog.pure_eq_ret, wp_deviceId]
  unfold beforeSend each
  icases Hb with ⟨⟨Hg0, Hg1, Hg2⟩, ⟨Ha0, Ha1, Ha2⟩, ⟨Ht0, Ht1, Ht2⟩, Hc, Hat, ⟨Hx0, Hx1, Hx2⟩, ⟨Hs0, Hs1, Hs2⟩, ⟨%W, HO⟩⟩
  unfold O₀
  iapply (wp_signal_peer m ρ K c _ 0 (dev1_eq c) (by decide) _ W) $$ [Hg0 Ha0 Ht0 HO]
  · isplitr; · iexact HR
    isplitl [Hg0]; · iexact Hg0
    isplitl [Ha0]; · iexact Ha0
    isplitl [Ht0]; · iexact Ht0
    iexact HO
  iintro HO
  iapply (wp_signal_peer m ρ K c _ 1 (dev2_eq c) (by decide) _ W) $$ [Hg1 Ha1 Ht1 HO]
  · isplitr; · iexact HR
    isplitl [Hg1]; · iexact Hg1
    isplitl [Ha1]; · iexact Ha1
    isplitl [Ht1]; · iexact Ht1
    iexact HO
  iintro HO
  iapply (wp_signal_peer m ρ K c _ 2 (dev3_eq c) (by decide) _ W) $$ [Hg2 Ha2 Ht2 HO]
  · isplitr; · iexact HR
    isplitl [Hg2]; · iexact Hg2
    isplitl [Ha2]; · iexact Ha2
    isplitl [Ht2]; · iexact Ht2
    iexact HO
  iintro HO
  iapply (wp_wait_bar m ρ K c (by decide) (OX c) W) $$ [Hc Hat HO]
  · isplitr; · iexact HR
    isplitl [Hc]; · iexact Hc
    isplitl [Hat]; · iexact Hat
    isplitl [HO]; · iexact HO
    iapply (mayWait_bar c); iexact Hlev
  iintro ⟨⟨%W1, HO⟩, Hz, Hp⟩
  unfold each barPay
  icases Hp with ⟨⟨Hp0, Hq0⟩, ⟨Hp1, Hq1⟩, ⟨Hp2, Hq2⟩⟩
  unfold OX
  iapply (wp_send_x m ρ K c _ 0 (dev4_eq c) (off1_at c).1 _ W1) $$ [Hx0 Hp0 Hs0 HO]
  · isplitr; · iexact HR
    isplitl [Hx0]; · iexact Hx0
    isplitl [Hp0]; · iexact Hp0
    isplitl [Hs0]; · iexact Hs0
    iexact HO
  iintro ⟨Hc0, HO⟩
  iapply (wp_send_x m ρ K c _ 1 (dev5_eq c) (off1_at c).2.1 _ W1) $$ [Hx1 Hp1 Hs1 HO]
  · isplitr; · iexact HR
    isplitl [Hx1]; · iexact Hx1
    isplitl [Hp1]; · iexact Hp1
    isplitl [Hs1]; · iexact Hs1
    iexact HO
  iintro ⟨Hc1, HO⟩
  iapply (wp_send_x m ρ K c _ 2 (dev6_eq c) (off1_at c).2.2 _ W1) $$ [Hx2 Hp2 Hs2 HO]
  · isplitr; · iexact HR
    isplitl [Hx2]; · iexact Hx2
    isplitl [Hp2]; · iexact Hp2
    isplitl [Hs2]; · iexact Hs2
    iexact HO
  iintro ⟨Hc2, HO⟩
  sl_step
  unfold afterSend each
  isplitr; · ipureintro; rfl
  isplitl [Hz]; · iexact Hz
  isplitl [Hc0 Hc1 Hc2]
  · isplitl [Hc0]; · iexact Hc0
    isplitl [Hc1]; · iexact Hc1
    iexact Hc2
  isplitl [Hq0 Hq1 Hq2]
  · isplitl [Hq0]; · iexact Hq0
    isplitl [Hq1]; · iexact Hq1
    iexact Hq2
  iexists _; iexact HO

end Cert.KernelIdeal.Exchange

end
-- ==== Proof.StepMax.lean ====
/-
  The exchange of the maxima.
-/
module

public import proofs.«01_k».proof.Proof.Handshake

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
/-- A share of elements is its two halves. -/
theorem share_halves {ℓ : Loc nD τ sig} {I : Finset (Idx ℓ)} {f : Buf (Elt F) ℓ} (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

omit [FloatOps F] in
/-- A device's slot of its own maximum, in the three parts it lends. -/
theorem aPts_thirds (c : Dev nD) (f) : (aPts c 0 fullShare f : sProp 𝕄) = each (fun j => aPts (F := F) c 0 (third j) f) := by
  unfold aPts each third
  dsimp only
  rw [share_halves fullShare, share_halves fullShare.right]

/-- The three parts of the slot holding the device's maximum. -/
theorem aHold_thirds (c : Dev nD) : aHold m ρ c 0 fullShare c = each fun j => aHold m ρ c 0 (third j) c := aPts_thirds c _

/-- A device may wait for a peer's maximum owing nothing. -/
theorem mayWait_nil (c : Dev nD) (sm : SemLoc sig) : ⊢ (MayWait (c : Thread nD τ) sm () 0 : sProp 𝕄) := by rw [MayWait_zero]; exact Entails.rfl

/-- The corner element lies within a slot of the maxima. -/
theorem corner_le : ∀ a : Fin 3, S1x1x1.size a ≤ S1x8x128.size a := by decide

/-- The element of a slot that the kernel loads is one of the slot's. -/
theorem corner_subset (s : Fin 4) (inb : ∀ a, (![s.val, 0, 0] : Fin 3 → Nat) a + S1x1x1.size a ≤ S4x8x128.size a) :
    (aM.access (Rect.unit (s := S4x8x128) ![s.val, 0, 0] S1x1x1.size inb)).set ⊆ (aSlot s).view.set := by
  intro i hi
  refine (Finset.ext_iff.mp (View.set_reshape (aM.view.slice (Rect.unit (s := S4x8x128) ![s.val, 0, 0] S1x8x128.size (aSlot_inb s)))
    (Shape.Squeezes.numel_eq squeezes_S1x8x128_S8x128)) i).mpr ?_
  obtain ⟨z, -, rfl⟩ := Finset.mem_map.mp hi
  refine Finset.mem_map.mpr ⟨fun a => ⟨(z a).val, lt_of_lt_of_le (z a).isLt (corner_le a)⟩, Finset.mem_univ _, rfl⟩

/-- Loading one element of a slot that holds a maximum reads the maximum. -/
theorem wp_load_max (c p : Dev nD) (s : Fin 4) (inb : ∀ a, (![s.val, 0, 0] : Fin 3 → Nat) a + S1x1x1.size a ≤ S4x8x128.size a) {hl} {α : Type} {Q : α → sProp 𝕄} {k : Vec F S1x1x1 .f32 → Prog (TpuEff nD τ sig (Elt F) Λ₀ .tc) α} :
    aHold m ρ c s fullShare p
      ⊢ iprop((aHold m ρ c s fullShare p -∗ wp frame (wpE (defs₀ (F := F)) 𝒱₀ (c : Thread nD τ) none) Set.univ (k fun _ => amax m ρ p) Q)
        -∗ wp frame (wpE (defs₀ (F := F)) 𝒱₀ (c : Thread nD τ) none) Set.univ
          (.op (.load aM (Rect.unit (s := S4x8x128) ![s.val, 0, 0] S1x1x1.size inb).toLoadRect hl) k) Q) :=
  wp_load_rect (q := fullShare) (f := fun _ => amax m ρ p) 𝒱₀ (c : Thread nD τ) none Set.univ (hl := hl) (k := k) (corner_subset s inb)

/-- What the exchange of the maxima starts with. -/
def beforeMax (c : Dev nD) : sProp 𝕄 :=
  iprop(aHold m ρ c 0 fullShare c ∗ each (fun j => iprop(∃ f, aPts (F := F) (dv c j) j.rev.succ fullShare f)) ∗ each (sendToks c 1)
    ∗ each (fun s => due c (3, s)) ∗ ∃ W, owes (c : Thread nD τ) (OA c) W)

/-- What it leaves. -/
def afterMax (c : Dev nD) (v w : F .f32) : sProp 𝕄 :=
  iprop(⌜Scalar.maximumf v w = gmax m ρ c⌝ ∗ each (fun s => aHold m ρ c s.succ fullShare (dv c s)) ∗ each (fun j => cred (tallyAt (kcell (c, kAs j)) () Na))
    ∗ each (fun s => semVal (kcell (c, kAr s)) 0) ∗ ∃ W, owes (c : Thread nD τ) 0 W)

set_option maxHeartbeats 1600000 in
set_option maxRecDepth 65536 in
/-- The exchange of the maxima. -/
theorem stepMax (K : Dev nD × KC → ℕ) (c : Dev nD) (v2 : BitVec 32) (v807 : F .f32) (v812 v8 : BitVec 32) (v813 : BitVec 1) (hv : v807 = amax m ρ c) :
    iprop(records m ρ K ∗ beforeMax m ρ c)
    ⊢ wp frame (wpE (defs₀ (F := F)) 𝒱₀ (c : Thread nD τ) none) Set.univ (grpMax (F := F) c v2 v807 v812 v8 v813) (fun r => afterMax m ρ c r.1 r.2) := by
  iintro ⟨#HR, Hb⟩
  unfold grpMax
  rw [k0_part29_eq_skeleton, k0_part30_eq_skeleton]
  simp only [k0_part31_eq_skeleton, k0_part32_eq_skeleton]
  unfold k0_part29_skel k0_part30_skel k0_part31_skel k0_part32_skel
  simp only [Prog.lift, Prog.bind_op, Prog.bind_ret, Prog.pure_eq_ret]
  unfold beforeMax
  rw [aHold_thirds]
  unfold each
  icases Hb with ⟨⟨Ha0, Ha1, Ha2⟩, ⟨Hp0, Hp1, Hp2⟩, ⟨Hs0, Hs1, Hs2⟩, ⟨Hd0, Hd1, Hd2⟩, ⟨%W, HO⟩⟩
  unfold OA
  iapply (wp_send_a m ρ K c _ 0 (dev7_eq c) _ W) $$ [Ha0 Hp0 Hs0 HO]
  · isplitr; · iexact HR
    isplitl [Ha0]; · iexact Ha0
    isplitl [Hp0]; · iexact Hp0
    isplitl [Hs0]; · iexact Hs0
    iexact HO
  iintro ⟨Hc0, HO⟩
  iapply (wp_send_a m ρ K c _ 1 (dev8_eq c) _ W) $$ [Ha1 Hp1 Hs1 HO]
  · isplitr; · iexact HR
    isplitl [Ha1]; · iexact Ha1
    isplitl [Hp1]; · iexact Hp1
    isplitl [Hs1]; · iexact Hs1
    iexact HO
  iintro ⟨Hc1, HO⟩
  iapply (wp_send_a m ρ K c _ 2 (dev9_eq c) 0 W) $$ [Ha2 Hp2 Hs2 HO]
  · isplitr; · iexact HR
    isplitl [Ha2]; · iexact Ha2
    isplitl [Hp2]; · iexact Hp2
    isplitl [Hs2]; · iexact Hs2
    rw [zero_add]; iexact HO
  iintro ⟨Hc2, HO⟩
  iapply (wp_wait_cell m ρ K c (3, 0) _ rfl 0 W (src := aSlot 1) (dst := aSlot 1) rfl) $$ [Hd0 HO]
  · isplitr; · iexact HR
    isplitl [Hd0]; · iexact Hd0
    isplitl [HO]; · iexact HO
    iapply (mayWait_nil (F := F) c _)
  iintro ⟨⟨%W1, HO⟩, Hz0, Hg0⟩
  ihave Hh0 := (Entails.of_eq (show kPay m ρ c (kAr 0) 0 = aHold m ρ c 1 fullShare (dv c 0) from rfl)) $$ Hg0
  iapply (wp_load_max m ρ c (dv c 0) 1 _) $$ Hh0
  iintro Hh0
  iapply (wp_wait_cell m ρ K c (3, 1) _ rfl 0 W1 (src := aSlot 2) (dst := aSlot 2) rfl) $$ [Hd1 HO]
  · isplitr; · iexact HR
    isplitl [Hd1]; · iexact Hd1
    isplitl [HO]; · iexact HO
    iapply (mayWait_nil (F := F) c _)
  iintro ⟨⟨%W2, HO⟩, Hz1, Hg1⟩
  ihave Hh1 := (Entails.of_eq (show kPay m ρ c (kAr 1) 0 = aHold m ρ c 2 fullShare (dv c 1) from rfl)) $$ Hg1
  iapply (wp_load_max m ρ c (dv c 1) 2 _) $$ Hh1
  iintro Hh1
  iapply (wp_wait_cell m ρ K c (3, 2) _ rfl 0 W2 (src := aSlot 3) (dst := aSlot 3) rfl) $$ [Hd2 HO]
  · isplitr; · iexact HR
    isplitl [Hd2]; · iexact Hd2
    isplitl [HO]; · iexact HO
    iapply (mayWait_nil (F := F) c _)
  iintro ⟨⟨%W3, HO⟩, Hz2, Hg2⟩
  ihave Hh2 := (Entails.of_eq (show kPay m ρ c (kAr 2) 0 = aHold m ρ c 3 fullShare (dv c 2) from rfl)) $$ Hg2
  iapply (wp_load_max m ρ c (dv c 2) 3 _) $$ Hh2
  iintro Hh2
  sl_step
  unfold afterMax each
  isplitr; · ipureintro; subst hv; rfl
  isplitl [Hh0 Hh1 Hh2]
  · isplitl [Hh0]; · iexact Hh0
    isplitl [Hh1]; · iexact Hh1
    iexact Hh2
  isplitl [Hc0 Hc1 Hc2]
  · isplitl [Hc0]; · iexact Hc0
    isplitl [Hc1]; · iexact Hc1
    iexact Hc2
  isplitl [Hz0 Hz1 Hz2]
  · isplitl [Hz0]; · iexact Hz0
    isplitl [Hz1]; · iexact Hz1
    iexact Hz2
  iexists _; iexact HO

end Cert.KernelIdeal.Exchange

end
-- ==== Proof.StepQuant.lean ====
/-
  The quantiser: each column block is read, clipped, quantised and stored.
-/
module

public import proofs.«01_k».proof.Proof.Step

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The step as the kernel forms it from the last two maxima. -/
theorem step_value (c : Dev nD) {v918 v939 : F .f32} (h : Scalar.maximumf v918 v939 = gmax m ρ c) : k0_pay52 v918 v939 = qscale m ρ c := by
  unfold qscale; rw [← h]; rfl

/-- A block read from the result's buffer and quantised. -/
theorem quant_value (c : Dev nD) (n : Fin 8) (inb) {s : F .f32} (hs : s = qscale m ρ c) :
    quant s (oM.view.readAt (Elt F) (Rect.unit (s := S1024x8192) ![0, 1024 * n.val] S1024x1024.size inb).toLoadRect (oBuf fun n => acc m ρ c n 3)) = outTile m ρ c n := by
  rw [hs, show oM.view.readAt (Elt F) (Rect.unit (s := S1024x8192) ![0, 1024 * n.val] S1024x1024.size inb).toLoadRect (oBuf fun n => acc m ρ c n 3)
    = acc m ρ c n 3 from load_tile (fun n => acc m ρ c n 3) n]; rfl

/-- The result's buffer with the first seven blocks stored, and the last block on its way. -/
def afterQuant (c : Dev nD) (v : FVec F S1024x1024 .f32) : sProp 𝕄 :=
  iprop(⌜v = outTile m ρ c 7⌝ ∗ ∃ f, oPts (F := F) c (oM.view.writes (Elt F) f [⟨oTile 6, outTile m ρ c 6⟩, ⟨oTile 5, outTile m ρ c 5⟩, ⟨oTile 4, outTile m ρ c 4⟩,
    ⟨oTile 3, outTile m ρ c 3⟩, ⟨oTile 2, outTile m ρ c 2⟩, ⟨oTile 1, outTile m ρ c 1⟩, ⟨oTile 0, outTile m ρ c 0⟩]))

/-- The buffer after the stores of seven given blocks. -/
theorem seven_stored (c : Dev nD) (f : (cc0_stg1_0 : Ref sig .tc).ty.Contents (Elt F)) (t : Fin 8 → Vec F S1024x1024 .f32) {p0 p1 p2 p3 p4 p5 p6 : Vec F S1024x1024 .f32}
    (h0 : p0 = t 0) (h1 : p1 = t 1) (h2 : p2 = t 2) (h3 : p3 = t 3) (h4 : p4 = t 4) (h5 : p5 = t 5) (h6 : p6 = t 6) :
    (oM.view.loc (c : Thread nD τ) ↦{fullShare} oM.view.writes (Elt F) f
      [⟨oTile 6, p6⟩, ⟨oTile 5, p5⟩, ⟨oTile 4, p4⟩, ⟨oTile 3, p3⟩, ⟨oTile 2, p2⟩, ⟨oTile 1, p1⟩, ⟨oTile 0, p0⟩] : sProp 𝕄)
    ⊢ iprop(∃ f, oPts (F := F) c (oM.view.writes (Elt F) f [⟨oTile 6, t 6⟩, ⟨oTile 5, t 5⟩, ⟨oTile 4, t 4⟩, ⟨oTile 3, t 3⟩, ⟨oTile 2, t 2⟩, ⟨oTile 1, t 1⟩, ⟨oTile 0, t 0⟩])) := by
  rw [h0, h1, h2, h3, h4, h5, h6]; unfold oPts; iintro H; iexists f; iexact H

set_option maxHeartbeats 1600000 in
set_option maxRecDepth 65536 in
/-- The quantiser. -/
theorem stepQuant (c : Dev nD) (v918 v939 : F .f32) (h : Scalar.maximumf v918 v939 = gmax m ρ c) :
    oPts c (oBuf fun n => acc m ρ c n 3)
    ⊢ wp frame (wpE (defs₀ (F := F)) 𝒱₀ (c : Thread nD τ) none) Set.univ (grpQuant (F := F) v918 v939) (afterQuant m ρ c) := by
  have hs := step_value m ρ c h
  iintro Ho
  unfold grpQuant
  rw [k0_part33_eq_skeleton]
  simp only [k0_part34_eq_skeleton, k0_part35_eq_skeleton]
  unfold k0_part33_skel k0_part34_skel k0_part35_skel
  simp only [Prog.lift, Prog.bind_op, Prog.bind_ret, Prog.pure_eq_ret]
  unfold oPts
  sl_exec
  sl_step
  unfold afterQuant
  isplitr
  · ipureintro; exact quant_value m ρ c 7 _ hs
  iapply (seven_stored c _ (outTile m ρ c) ?_ ?_ ?_ ?_ ?_ ?_ ?_) $$ Ho
  · exact quant_value m ρ c 0 _ hs
  · exact quant_value m ρ c 1 _ hs
  · exact quant_value m ρ c 2 _ hs
  · exact quant_value m ρ c 3 _ hs
  · exact quant_value m ρ c 4 _ hs
  · exact quant_value m ρ c 5 _ hs
  · exact quant_value m ρ c 6 _ hs

end Cert.KernelIdeal.Exchange

end
-- ==== Proof.StepEnd.lean ====
/-
  The last store, and the waits for the transfers sent.
-/
module

public import proofs.«01_k».proof.Proof.StepMax
public import proofs.«01_k».proof.Proof.StepQuant

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- What the end starts with. -/
def beforeEnd (c : Dev nD) (v : FVec F S1024x1024 .f32) : sProp 𝕄 :=
  iprop(afterQuant m ρ c v ∗ each (fun j => due c (0, j)) ∗ each (fun j => due c (2, j)) ∗ ∃ W, owes (c : Thread nD τ) 0 W)

/-- What it leaves: the result stored, and what was lent to the transfers back. -/
def afterEnd (c : Dev nD) : sProp 𝕄 :=
  iprop(oPts c (oBuf (outTile m ρ c)) ∗ each (fun j => xPts m ρ c (dv c j)) ∗ aHold m ρ c 0 fullShare c
    ∗ each (fun j => semVal (kcell (c, kXs j)) 0) ∗ each (fun j => semVal (kcell (c, kAs j)) 0) ∗ ∃ W, owes (c : Thread nD τ) 0 W)

/-- The last block's store completes the result. -/
theorem oPts_last (c : Dev nD) (f : (cc0_stg1_0 : Ref sig .tc).ty.Contents (Elt F)) (t : Fin 8 → Vec F S1024x1024 .f32) {p7 : Vec F S1024x1024 .f32} (h7 : p7 = t 7) :
    (oM.view.loc (c : Thread nD τ) ↦{fullShare} oM.view.writes (Elt F) f
      [⟨oTile 7, p7⟩, ⟨oTile 6, t 6⟩, ⟨oTile 5, t 5⟩, ⟨oTile 4, t 4⟩, ⟨oTile 3, t 3⟩, ⟨oTile 2, t 2⟩, ⟨oTile 1, t 1⟩, ⟨oTile 0, t 0⟩] : sProp 𝕄)
    ⊢ oPts c (oBuf t) := oPts_filled c f t rfl rfl rfl rfl rfl rfl rfl h7

set_option maxHeartbeats 1600000 in
set_option maxRecDepth 65536 in
/-- The end of the body. -/
theorem stepEnd (K : Dev nD × KC → ℕ) (c : Dev nD) (v : FVec F S1024x1024 .f32) :
    iprop(records m ρ K ∗ beforeEnd m ρ c v)
    ⊢ wp frame (wpE (defs₀ (F := F)) 𝒱₀ (c : Thread nD τ) none) Set.univ (grpEnd (F := F) c v) (fun _ => afterEnd m ρ c) := by
  iintro ⟨#HR, Hb⟩
  unfold grpEnd
  rw [k0_part36_eq_skeleton]
  unfold k0_part36_skel
  simp only [Prog.lift, Prog.bind_op, Prog.bind_ret, Prog.pure_eq_ret]
  unfold beforeEnd afterQuant each
  icases Hb with ⟨⟨%hv, %f, Ho⟩, ⟨Hd0, Hd1, Hd2⟩, ⟨He0, He1, He2⟩, ⟨%W, HO⟩⟩
  unfold oPts
  sl_step
  iapply (wp_wait_cell m ρ K c (0, 0) _ rfl 0 W (src := gSlot 2) (dst := xM.slice (Rect.unit (s := S4096x1024) (k0_off1 c 1#32) S1024x1024.size (k0_off1_inb c 0)) (fun _ => rfl)) rfl) $$ [Hd0 HO]
  · isplitr; · iexact HR
    isplitl [Hd0]; · iexact Hd0
    isplitl [HO]; · iexact HO
    iapply (mayWait_nil (F := F) c _)
  iintro ⟨⟨%W1, HO⟩, Hz0, Hx0⟩
  iapply (wp_wait_cell m ρ K c (0, 1) _ rfl 0 W1 (src := gSlot 1) (dst := xM.slice (Rect.unit (s := S4096x1024) (k0_off1 c 2#32) S1024x1024.size (k0_off1_inb c 1)) (fun _ => rfl)) rfl) $$ [Hd1 HO]
  · isplitr; · iexact HR
    isplitl [Hd1]; · iexact Hd1
    isplitl [HO]; · iexact HO
    iapply (mayWait_nil (F := F) c _)
  iintro ⟨⟨%W2, HO⟩, Hz1, Hx1⟩
  iapply (wp_wait_cell m ρ K c (0, 2) _ rfl 0 W2 (src := gSlot 0) (dst := xM.slice (Rect.unit (s := S4096x1024) (k0_off1 c 3#32) S1024x1024.size (k0_off1_inb c 2)) (fun _ => rfl)) rfl) $$ [Hd2 HO]
  · isplitr; · iexact HR
    isplitl [Hd2]; · iexact Hd2
    isplitl [HO]; · iexact HO
    iapply (mayWait_nil (F := F) c _)
  iintro ⟨⟨%W3, HO⟩, Hz2, Hx2⟩
  iapply (wp_wait_cell m ρ K c (2, 0) _ rfl 0 W3 (src := aSlot 3) (dst := aSlot 0) rfl) $$ [He0 HO]
  · isplitr; · iexact HR
    isplitl [He0]; · iexact He0
    isplitl [HO]; · iexact HO
    iapply (mayWait_nil (F := F) c _)
  iintro ⟨⟨%W4, HO⟩, Hy0, Ha0⟩
  iapply (wp_wait_cell m ρ K c (2, 1) _ rfl 0 W4 (src := aSlot 2) (dst := aSlot 0) rfl) $$ [He1 HO]
  · isplitr; · iexact HR
    isplitl [He1]; · iexact He1
    isplitl [HO]; · iexact HO
    iapply (mayWait_nil (F := F) c _)
  iintro ⟨⟨%W5, HO⟩, Hy1, Ha1⟩
  iapply (wp_wait_cell m ρ K c (2, 2) _ rfl 0 W5 (src := aSlot 1) (dst := aSlot 0) rfl) $$ [He2 HO]
  · isplitr; · iexact HR
    isplitl [He2]; · iexact He2
    isplitl [HO]; · iexact HO
    iapply (mayWait_nil (F := F) c _)
  iintro ⟨⟨%W6, HO⟩, Hy2, Ha2⟩
  sl_step
  unfold afterEnd
  isplitl [Ho]
  · iapply (oPts_last c f (outTile m ρ c) hv) $$ Ho
  isplitl [Hx0 Hx1 Hx2]
  · unfold each
    isplitl [Hx0]; · iapply (show kPay m ρ c (kXs 0) 0 ⊢ xPts m ρ c (dv c 0) from Entails.rfl) $$ Hx0
    isplitl [Hx1]; · iapply (show kPay m ρ c (kXs 1) 0 ⊢ xPts m ρ c (dv c 1) from Entails.rfl) $$ Hx1
    iapply (show kPay m ρ c (kXs 2) 0 ⊢ xPts m ρ c (dv c 2) from Entails.rfl) $$ Hx2
  isplitl [Ha0 Ha1 Ha2]
  · rw [aHold_thirds]; unfold each
    isplitl [Ha0]; · iapply (show kPay m ρ c (kAs 0) 0 ⊢ aHold m ρ c 0 (third 0) c from Entails.rfl) $$ Ha0
    isplitl [Ha1]; · iapply (show kPay m ρ c (kAs 1) 0 ⊢ aHold m ρ c 0 (third 1) c from Entails.rfl) $$ Ha1
    iapply (show kPay m ρ c (kAs 2) 0 ⊢ aHold m ρ c 0 (third 2) c from Entails.rfl) $$ Ha2
  unfold each
  isplitl [Hz0 Hz1 Hz2]
  · isplitl [Hz0]; · iexact Hz0
    isplitl [Hz1]; · iexact Hz1
    iexact Hz2
  isplitl [Hy0 Hy1 Hy2]
  · isplitl [Hy0]; · iexact Hy0
    isplitl [Hy1]; · iexact Hy1
    iexact Hy2
  iexists _; iexact HO

end Cert.KernelIdeal.Exchange

end
-- ==== Proof.Body.lean ====
/-
  The body on a device, from everything it holds at its start to everything it leaves.
-/
module

public import proofs.«01_k».proof.Proof.Step0
public import proofs.«01_k».proof.Proof.Step1
public import proofs.«01_k».proof.Proof.Step2
public import proofs.«01_k».proof.Proof.Step3
public import proofs.«01_k».proof.Proof.StepEnd

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- Two programs in sequence, the first's result passed on. -/
theorem wp_then {α β : Type} {c : Dev nD} {p : Prog (TpuEff nD τ sig (Elt F) Λ₀ .tc) α} {k : α → Prog (TpuEff nD τ sig (Elt F) Λ₀ .tc) β}
    {P : sProp 𝕄} {Q : α → sProp 𝕄} {R : β → sProp 𝕄} (h : P ⊢ wp frame (wpE (defs₀ (F := F)) 𝒱₀ (c : Thread nD τ) none) Set.univ p Q) :
    P ⊢ iprop((∀ a, Q a -∗ wp frame (wpE (defs₀ (F := F)) 𝒱₀ (c : Thread nD τ) none) Set.univ (k a) R)
      -∗ wp frame (wpE (defs₀ (F := F)) 𝒱₀ (c : Thread nD τ) none) Set.univ (p >>= k) R) := by
  rw [wp_bind]; exact h.trans (wp_wand _ _ _)

/-- Everything a device's body starts with. -/
def bodyIn (K : Dev nD × KC → ℕ) (c : Dev nD) : sProp 𝕄 :=
  iprop(levAts L lv ∗ records m ρ K ∗ beforeSend m ρ c ∗ xPts m ρ c c ∗ wTok m ρ c 0 ∗ wTok m ρ c 1 ∗ (∃ f, oPts (F := F) c f)
    ∗ (∃ f, bPts (F := F) c 0 f) ∗ (∃ f, bPts (F := F) c 1 f) ∗ semVal ((c : Thread nD τ), SemLoc.dma 15) 0 ∗ semVal ((c : Thread nD τ), SemLoc.dma 16) 0
    ∗ (∃ f, aPts (F := F) c 0 fullShare f) ∗ each (sendToks c 1) ∗ each (fun s => due c (1, s)) ∗ each (fun s => due c (3, s))
    ∗ each (fun j => atPos ER (kcell (c, kXs j)) 0 ∅ 0) ∗ each (fun j => atPos ER (kcell (c, kAs j)) 0 ∅ 0))

/-- Everything it leaves. -/
def bodyOut (c : Dev nD) : sProp 𝕄 :=
  iprop(afterEnd m ρ c ∗ xPts m ρ c c ∗ wTok m ρ c 0 ∗ wTok m ρ c 1 ∗ (∃ f, bPts (F := F) c 0 f) ∗ (∃ f, bPts (F := F) c 1 f)
    ∗ semVal ((c : Thread nD τ), SemLoc.dma 15) 0 ∗ semVal ((c : Thread nD τ), SemLoc.dma 16) 0 ∗ each (fun s => gHeld m ρ c s)
    ∗ each (fun s => aHold m ρ c s.succ fullShare (dv c s)) ∗ semVal (kcell (c, kBar)) 0
    ∗ each (fun s => semVal (kcell (c, kXr s)) 0) ∗ each (fun s => semVal (kcell (c, kAr s)) 0))

/-- The eight groups in sequence. -/
def groups : Prog (E (F := F)) PUnit := do
  let ⟨d0, v2, v116, v127, v130, v131⟩ ← grpSend
  let ⟨v138, v149⟩ ← grp0 d0 v2 v116 v127 v130 v131
  grp1 d0 v127 v138
  let v627 ← grp2 d0 v138 v149
  let ⟨v807, v812, c4_i32_732, v813⟩ ← grp3 d0 v2 v149 v627
  let ⟨v918, v939⟩ ← grpMax d0 v2 v807 v812 c4_i32_732 v813
  let v1053 ← grpQuant v918 v939
  grpEnd d0 v1053

set_option maxHeartbeats 1600000 in
/-- The body. -/
theorem body_run (K : Dev nD × KC → ℕ) (c : Dev nD) :
    bodyIn m ρ K c ⊢ wp frame (wpE (defs₀ (F := F)) 𝒱₀ (c : Thread nD τ) none) Set.univ (groups (F := F)) (fun _ => bodyOut m ρ c) := by
  unfold bodyIn groups
  iintro ⟨#Hlev, #HR, Hsend, Hx, Hw0, Hw1, Ho, Hb0, Hb1, Hs0, Hs1, Ha, Htok, Hdx, Hda, Hpx, Hpa⟩
  iapply (wp_then (stepSend m ρ K c)) $$ [Hsend]
  · isplitr; · iexact Hlev
    isplitr; · iexact HR
    iexact Hsend
  iintro %r H0
  unfold afterSend
  icases H0 with ⟨%hr, HzB, Hcx, Hslots, HO⟩
  obtain ⟨d0, v2, v116, v127, v130, v131⟩ := r
  obtain rfl : d0 = c := hr
  dsimp only
  iapply (wp_then (step0 m ρ d0 v2 v116 v127 v130 v131)) $$ [Hx Hw0 Hw1 Ho Hb0 Hb1 Hs0 Hs1 HO]
  · isplitr; · iexact Hlev
    isplitl [Hx]; · iexact Hx
    isplitl [Hw0]; · iexact Hw0
    isplitl [Hw1]; · iexact Hw1
    isplitl [Ho]; · iexact Ho
    isplitl [Hb0]; · iexact Hb0
    isplitl [Hb1]; · iexact Hb1
    isplitl [Hs0]; · iexact Hs0
    isplitl [Hs1]; · iexact Hs1
    iexact HO
  iintro %r ⟨Hx, Hm⟩
  obtain ⟨v138, v149⟩ := r
  dsimp only
  unfold each
  icases Hdx with ⟨Hd0, Hd1, Hd2⟩
  iapply (wp_then (step1 m ρ K d0 v127 v138)) $$ [Hd0 Hd2 Hm]
  · isplitr; · iexact Hlev
    isplitr; · iexact HR
    isplitl [Hd0]; · iexact Hd0
    isplitl [Hd2]; · iexact Hd2
    iexact Hm
  iintro %r1 H1
  unfold afterStep1
  icases H1 with ⟨Hg0, Hg2, Hz0, Hz2, Hm⟩
  iapply (wp_then (step2 m ρ K d0 v138 v149)) $$ [Hd1 Hg2 Hm]
  · isplitr; · iexact Hlev
    isplitr; · iexact HR
    isplitl [Hd1]; · iexact Hd1
    isplitl [Hg2]; · iexact Hg2
    iexact Hm
  iintro %v627 H2
  unfold afterStep2
  icases H2 with ⟨%hv, Hg2, Hg1, Hz1, Hm⟩
  iapply (wp_then (step3 m ρ d0 v2 v149 v627 hv)) $$ [Ha Hm]
  · isplitr; · iexact Hlev
    isplitl [Ha]; · iexact Ha
    iexact Hm
  iintro %r H3
  unfold afterStep3
  icases H3 with ⟨%hr, Ha, Ho, Hw0, Hw1, Hb0, Hb1, Hs0, Hs1, HO⟩
  obtain ⟨v807, v812, v8, v813⟩ := r
  dsimp only
  iapply (wp_then (stepMax m ρ K d0 v2 v807 v812 v8 v813 hr)) $$ [Ha Hslots Htok Hda HO]
  · isplitr; · iexact HR
    unfold beforeMax each
    isplitl [Ha]; · iexact Ha
    isplitl [Hslots]; · iexact Hslots
    isplitl [Htok]; · iexact Htok
    isplitl [Hda]; · iexact Hda
    iexact HO
  iintro %r H4
  unfold afterMax each
  icases H4 with ⟨%hr, Hah, Hca, Hza, HO⟩
  obtain ⟨v918, v939⟩ := r
  dsimp only
  iapply (wp_then (stepQuant m ρ d0 v918 v939 hr)) $$ [Ho]
  · iexact Ho
  iintro %v1053 Hq
  iapply ((stepEnd m ρ K d0 v1053).trans (wp_wand _ _ _)) $$ [Hq Hcx Hca Hpx Hpa HO]
  · isplitr; · iexact HR
    unfold beforeEnd each
    icases Hcx with ⟨Hc0, Hc1, Hc2⟩
    icases Hca with ⟨Hc3, Hc4, Hc5⟩
    icases Hpx with ⟨Hp0, Hp1, Hp2⟩
    icases Hpa with ⟨Hp3, Hp4, Hp5⟩
    isplitl [Hq]; · iexact Hq
    isplitl [Hc0 Hc1 Hc2 Hp0 Hp1 Hp2]
    · unfold due
      isplitl [Hc0 Hp0]
      · isplitl [Hc0]; · iexact Hc0
        iexact Hp0
      isplitl [Hc1 Hp1]
      · isplitl [Hc1]; · iexact Hc1
        iexact Hp1
      isplitl [Hc2]; · iexact Hc2
      iexact Hp2
    isplitl [Hc3 Hc4 Hc5 Hp3 Hp4 Hp5]
    · unfold due
      isplitl [Hc3 Hp3]
      · isplitl [Hc3]; · iexact Hc3
        iexact Hp3
      isplitl [Hc4 Hp4]
      · isplitl [Hc4]; · iexact Hc4
        iexact Hp4
      isplitl [Hc5]; · iexact Hc5
      iexact Hp5
    iexact HO
  iintro %r9 He
  unfold bodyOut each
  isplitl [He]; · iexact He
  isplitl [Hx]; · iexact Hx
  isplitl [Hw0]; · iexact Hw0
  isplitl [Hw1]; · iexact Hw1
  isplitl [Hb0]; · iexact Hb0
  isplitl [Hb1]; · iexact Hb1
  isplitl [Hs0]; · iexact Hs0
  isplitl [Hs1]; · iexact Hs1
  isplitl [Hg0 Hg1 Hg2]
  · isplitl [Hg0]; · iexact Hg0
    isplitl [Hg1]; · iexact Hg1
    iexact Hg2
  isplitl [Hah]; · iexact Hah
  isplitl [HzB]; · iexact HzB
  isplitl [Hz0 Hz1 Hz2]
  · isplitl [Hz0]; · iexact Hz0
    isplitl [Hz1]; · iexact Hz1
    iexact Hz2
  iexact Hza

end Cert.KernelIdeal.Exchange

end
-- ==== Proof.Slots.lean ====
/-
  Buffers held whole and held part by part: the row blocks of `x`, the slots of the three scratch buffers, the two read
  shares of the weights.
-/
module

public import proofs.«01_k».proof.Proof.Body

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
/-- A conjunction over the three peers, one by one. -/
theorem bigSep_each (Φ : Fin 3 → sProp 𝕄) : bigSep Finset.univ Φ = each Φ :=
  bigSep_univ_eq_bigSepL [0, 1, 2] (by decide) (by decide) Φ
omit [FloatOps F] in
/-- A conjunction over four, the first apart. -/
theorem bigSep_four (Φ : Fin 4 → sProp 𝕄) : bigSep Finset.univ Φ = iprop(Φ 0 ∗ each fun j => Φ j.succ) :=
  bigSep_univ_eq_bigSepL [0, 1, 2, 3] (by decide) (by decide) Φ
omit [FloatOps F] in
/-- A conjunction over two. -/
theorem bigSep_two (Φ : Fin 2 → sProp 𝕄) : bigSep Finset.univ Φ = iprop(Φ 0 ∗ Φ 1) :=
  bigSep_univ_eq_bigSepL [0, 1] (by decide) (by decide) Φ
/-- A device and its three peers are different. -/
theorem devs_nodup (c : Dev nD) : [c, dv c 0, dv c 1, dv c 2].Nodup := by revert c; decide
/-- A device and its three peers are all devices. -/
theorem devs_all (c : Dev nD) : (Finset.univ : Finset (Dev nD)) = [c, dv c 0, dv c 1, dv c 2].toFinset := by revert c; decide
omit [FloatOps F] in
/-- A conjunction over the devices: a device and its three peers. -/
theorem bigSep_peers (c : Dev nD) (Φ : Dev nD → sProp 𝕄) : bigSep Finset.univ Φ = iprop(Φ c ∗ each fun j => Φ (dv c j)) := by
  rw [bigSep_eq_bigSepL_of_eq [c, dv c 0, dv c 1, dv c 2] (devs_all c) (devs_nodup c)]; rfl
omit [FloatOps F] in
/-- Entailment peer by peer. -/
theorem each_mono {Φ Ψ : Fin 3 → sProp 𝕄} (h : ∀ j, Φ j ⊢ Ψ j) : each Φ ⊢ each Ψ := by
  unfold each; exact BIClass.sep_mono (h 0) (BIClass.sep_mono (h 1) (h 2))
omit [FloatOps F] in
/-- Two families side by side. -/
theorem each_sep (Φ Ψ : Fin 3 → sProp 𝕄) : each (fun j => iprop(Φ j ∗ Ψ j)) = iprop(each Φ ∗ each Ψ) := by
  rw [← bigSep_each, ← bigSep_each, ← bigSep_each, bigSep_sep']

/-! ## The row blocks of `x` -/

/-- The elements of row block `b`. -/
theorem xRow_set (b : Dev nD) : (xRow b).view.set = (Rect.unit (s := S4096x1024) ![1024 * b.val, 0] S1024x1024.size (xRow_inb b)).set :=
  View.set_slice_whole _ _
/-- Different row blocks share no element. -/
theorem xRow_disjoint (b b' : Dev nD) (h : b ≠ b') : Disjoint (xRow b).view.set (xRow b').view.set := by
  rw [xRow_set, xRow_set]
  exact Ring.lead_disjoint (s := S4096x1024) (NB := 4) 0 1024 (fun b => ![1024 * b.val, 0]) S1024x1024.size xRow_inb (fun _ => rfl) rfl b b' h
/-- The row blocks make up `x`. -/
theorem xRow_cover : Finset.biUnion (β := S4096x1024.Idx) Finset.univ (fun b : Dev nD => (xRow b).view.set) = Finset.univ := by
  refine (congrArg (Finset.biUnion Finset.univ) (funext xRow_set)).trans ?_
  exact Ring.lead_cover (s := S4096x1024) (NB := 4) 0 1024 (fun b => ![1024 * b.val, 0]) S1024x1024.size xRow_inb (fun _ => rfl)
    (fun b a h => by fin_cases a; exacts [absurd rfl h, rfl]) rfl (fun a h => by fin_cases a; exacts [absurd rfl h, rfl]) rfl
/-- The staged `x` is held block by block. -/
theorem x_blocks (c : Dev nD) :
    (((c : Thread nD τ).loc cc0_stg0_0) ↦{fullShare} xstg m ρ c : sProp 𝕄) = iprop(xPts m ρ c c ∗ each fun j => xPts m ρ c (dv c j)) :=
  (Ring.pointsTo_blocks (ℓ := (c : Thread nD τ).loc cc0_stg0_0) (fun b : Dev nD => (xRow b).view.set) xRow_disjoint xRow_cover (xstg m ρ c)).trans
    (bigSep_peers c fun b => xPts m ρ c b)

/-! ## The slots of the scratch buffers -/

/-- The elements of a landing slot. -/
theorem gSlot_set (s : Fin 3) : (gSlot s).view.set = (Rect.unit (s := S3x1024x1024) ![s.val, 0, 0] S1x1024x1024.size (gSlot_inb s)).set :=
  (View.set_reshape (v := gM.view.slice _) squeezes_S1x1024x1024_S1024x1024.numel_eq).trans (View.set_slice_whole _ _)
/-- The elements of a slot of the double buffer. -/
theorem bSlot_set (s : Fin 2) : (bSlot s).view.set = (Rect.unit (s := S2x1024x1024) ![s.val, 0, 0] S1x1024x1024.size (bSlot_inb s)).set :=
  (View.set_reshape (v := bM.view.slice _) squeezes_S1x1024x1024_S1024x1024.numel_eq).trans (View.set_slice_whole _ _)
/-- The elements of a slot of the maxima. -/
theorem aSlot_set (s : Fin 4) : (aSlot s).view.set = (Rect.unit (s := S4x8x128) ![s.val, 0, 0] S1x8x128.size (aSlot_inb s)).set :=
  (View.set_reshape (v := aM.view.slice _) squeezes_S1x8x128_S8x128.numel_eq).trans (View.set_slice_whole _ _)

/-- Different landing slots share no element. -/
theorem gSlot_disjoint (s s' : Fin 3) (h : s ≠ s') : Disjoint (gSlot s).view.set (gSlot s').view.set := by
  rw [gSlot_set, gSlot_set]
  exact Ring.lead_disjoint (s := S3x1024x1024) (NB := 3) 0 1 (fun b => ![b.val, 0, 0]) S1x1024x1024.size gSlot_inb (fun _ => (Nat.one_mul _).symm) rfl s s' h
/-- The landing slots make up their buffer. -/
theorem gSlot_cover : Finset.biUnion (β := S3x1024x1024.Idx) Finset.univ (fun s : Fin 3 => (gSlot s).view.set) = Finset.univ := by
  refine (congrArg (Finset.biUnion Finset.univ) (funext gSlot_set)).trans ?_
  exact Ring.lead_cover (s := S3x1024x1024) (NB := 3) 0 1 (fun b => ![b.val, 0, 0]) S1x1024x1024.size gSlot_inb (fun _ => (Nat.one_mul _).symm)
    (fun b a h => by fin_cases a; exacts [absurd rfl h, rfl, rfl]) rfl (fun a h => by fin_cases a; exacts [absurd rfl h, rfl, rfl]) rfl
/-- The double buffer's slots share no element. -/
theorem bSlot_disjoint (s s' : Fin 2) (h : s ≠ s') : Disjoint (bSlot s).view.set (bSlot s').view.set := by
  rw [bSlot_set, bSlot_set]
  exact Ring.lead_disjoint (s := S2x1024x1024) (NB := 2) 0 1 (fun b => ![b.val, 0, 0]) S1x1024x1024.size bSlot_inb (fun _ => (Nat.one_mul _).symm) rfl s s' h
/-- The two slots make up the double buffer. -/
theorem bSlot_cover : Finset.biUnion (β := S2x1024x1024.Idx) Finset.univ (fun s : Fin 2 => (bSlot s).view.set) = Finset.univ := by
  refine (congrArg (Finset.biUnion Finset.univ) (funext bSlot_set)).trans ?_
  exact Ring.lead_cover (s := S2x1024x1024) (NB := 2) 0 1 (fun b => ![b.val, 0, 0]) S1x1024x1024.size bSlot_inb (fun _ => (Nat.one_mul _).symm)
    (fun b a h => by fin_cases a; exacts [absurd rfl h, rfl, rfl]) rfl (fun a h => by fin_cases a; exacts [absurd rfl h, rfl, rfl]) rfl
/-- Different slots of the maxima share no element. -/
theorem aSlot_disjoint (s s' : Fin 4) (h : s ≠ s') : Disjoint (aSlot s).view.set (aSlot s').view.set := by
  rw [aSlot_set, aSlot_set]
  exact Ring.lead_disjoint (s := S4x8x128) (NB := 4) 0 1 (fun b => ![b.val, 0, 0]) S1x8x128.size aSlot_inb (fun _ => (Nat.one_mul _).symm) rfl s s' h
/-- The slots make up the buffer of the maxima. -/
theorem aSlot_cover : Finset.biUnion (β := S4x8x128.Idx) Finset.univ (fun s : Fin 4 => (aSlot s).view.set) = Finset.univ := by
  refine (congrArg (Finset.biUnion Finset.univ) (funext aSlot_set)).trans ?_
  exact Ring.lead_cover (s := S4x8x128) (NB := 4) 0 1 (fun b => ![b.val, 0, 0]) S1x8x128.size aSlot_inb (fun _ => (Nat.one_mul _).symm)
    (fun b a h => by fin_cases a; exacts [absurd rfl h, rfl, rfl]) rfl (fun a h => by fin_cases a; exacts [absurd rfl h, rfl, rfl]) rfl

/-- A buffer whole at some contents. -/
def whole (c : Dev nD) (b : Ref sig .tc) : sProp 𝕄 := iprop(∃ f : Buf (Elt F) ((c : Thread nD τ).loc b), ((c : Thread nD τ).loc b) ↦{fullShare} f)

omit [FloatOps F] in
/-- Parts of a buffer, each at some contents, make the buffer at some contents. -/
theorem whole_join (c : Dev nD) (b : Ref sig .tc) {B : Type} [Fintype B] [DecidableEq B] (I : B → Finset (Idx ((c : Thread nD τ).loc b)))
    (hd : ∀ i j, i ≠ j → Disjoint (I i) (I j)) (hc : Finset.univ.biUnion I = Finset.univ) [Nonempty (Buf (Elt F) ((c : Thread nD τ).loc b))] :
    bigSep Finset.univ (fun i => iprop(∃ f : Buf (Elt F) ((c : Thread nD τ).loc b), ((c : Thread nD τ).loc b) ↦[I i]{fullShare} f)) ⊢ (whole c b : sProp 𝕄) :=
  Ring.pointsTo_blocks_join_exists I hd hc (Classical.arbitrary _)

omit [FloatOps F] in
/-- A buffer at some contents comes apart into its parts, each at some contents. -/
theorem whole_split (c : Dev nD) (b : Ref sig .tc) {B : Type} [Fintype B] (I : B → Finset (Idx ((c : Thread nD τ).loc b)))
    (hd : ∀ i j, i ≠ j → Disjoint (I i) (I j)) (hc : Finset.univ.biUnion I = Finset.univ) :
    (whole c b : sProp 𝕄) ⊢ bigSep Finset.univ (fun i => iprop(∃ f : Buf (Elt F) ((c : Thread nD τ).loc b), ((c : Thread nD τ).loc b) ↦[I i]{fullShare} f)) := by
  unfold whole
  iintro ⟨%f, H⟩
  iapply (show (((c : Thread nD τ).loc b) ↦{fullShare} f : sProp 𝕄)
      ⊢ bigSep Finset.univ (fun i => iprop(∃ f : Buf (Elt F) ((c : Thread nD τ).loc b), ((c : Thread nD τ).loc b) ↦[I i]{fullShare} f)) from by
    rw [Ring.pointsTo_blocks I hd hc f]
    exact bigSep_mono fun i _ => (show (((c : Thread nD τ).loc b) ↦[I i]{fullShare} f : sProp 𝕄)
      ⊢ iprop(∃ f : Buf (Elt F) ((c : Thread nD τ).loc b), ((c : Thread nD τ).loc b) ↦[I i]{fullShare} f) from by iintro H; iexists f; iexact H))
  iexact H

/-- The buffer of the landing slots in its slots. -/
theorem g_split (c : Dev nD) : (whole c cc0_scratch0 : sProp 𝕄) ⊢ each fun s => iprop(∃ f, gPts (F := F) c s f) :=
  (whole_split c cc0_scratch0 (fun s : Fin 3 => (gSlot s).view.set) gSlot_disjoint gSlot_cover).trans
    (Entails.of_eq (bigSep_each fun s => iprop(∃ f, gPts (F := F) c s f)))
/-- The landing slots after the exchange make their buffer. -/
theorem g_join (c : Dev nD) : each (fun s => gHeld (F := F) m ρ c s) ⊢ (whole c cc0_scratch0 : sProp 𝕄) :=
  ((each_mono (fun s => (show gHeld (F := F) m ρ c s ⊢ iprop(∃ f, gPts (F := F) c s f) from by
    unfold gHeld; iintro ⟨%f, -, H⟩; iexists f; iexact H))).trans
    (Entails.of_eq (bigSep_each fun s => iprop(∃ f, gPts (F := F) c s f)).symm)).trans
    (whole_join c cc0_scratch0 (fun s : Fin 3 => (gSlot s).view.set) gSlot_disjoint gSlot_cover)
/-- The double buffer in its two slots. -/
theorem b_split (c : Dev nD) : (whole c cc0_scratch1 : sProp 𝕄) ⊢ iprop((∃ f, bPts (F := F) c 0 f) ∗ ∃ f, bPts (F := F) c 1 f) :=
  (whole_split c cc0_scratch1 (fun s : Fin 2 => (bSlot s).view.set) bSlot_disjoint bSlot_cover).trans
    (Entails.of_eq (bigSep_two fun s => iprop(∃ f, bPts (F := F) c s f)))
/-- The two slots make the double buffer. -/
theorem b_join (c : Dev nD) : iprop((∃ f, bPts (F := F) c 0 f) ∗ ∃ f, bPts (F := F) c 1 f) ⊢ (whole c cc0_scratch1 : sProp 𝕄) :=
  (Entails.of_eq (bigSep_two fun s => iprop(∃ f, bPts (F := F) c s f)).symm).trans
    (whole_join c cc0_scratch1 (fun s : Fin 2 => (bSlot s).view.set) bSlot_disjoint bSlot_cover)
/-- The buffer of the maxima in the device's own slot and its peers'. -/
theorem a_split (c : Dev nD) :
    (whole c cc0_scratch2 : sProp 𝕄) ⊢ iprop((∃ f, aPts (F := F) c 0 fullShare f) ∗ each fun s => iprop(∃ f, aPts (F := F) c s.succ fullShare f)) :=
  (whole_split c cc0_scratch2 (fun s : Fin 4 => (aSlot s).view.set) aSlot_disjoint aSlot_cover).trans
    (Entails.of_eq (bigSep_four fun s => iprop(∃ f, aPts (F := F) c s fullShare f)))
/-- A landed maximum is some contents. -/
theorem aHold_some (c : Dev nD) (s : Fin 4) (p : Dev nD) : aHold m ρ c s fullShare p ⊢ iprop(∃ f, aPts (F := F) c s fullShare f) := by
  unfold aHold; iintro H; iexists _; iexact H
/-- The slots after the exchange make the buffer of the maxima. -/
theorem a_join (c : Dev nD) :
    iprop(aHold m ρ c 0 fullShare c ∗ each fun s => aHold m ρ c s.succ fullShare (dv c s)) ⊢ (whole c cc0_scratch2 : sProp 𝕄) :=
  ((BIClass.sep_mono (aHold_some m ρ c 0 c) (each_mono fun s => aHold_some m ρ c s.succ (dv c s))).trans
    (Entails.of_eq (bigSep_four fun s => iprop(∃ f, aPts (F := F) c s fullShare f)).symm)).trans
    (whole_join c cc0_scratch2 (fun s : Fin 4 => (aSlot s).view.set) aSlot_disjoint aSlot_cover)

/-! ## The weights -/

/-- What stays aside of the weights while the two transfers' shares are out. -/
def wRest (c : Dev nD) : sProp 𝕄 := wM.view.loc (c : Thread nD τ) ↦{Transfers.shareDrop fullShare 2} wbuf m ρ c
/-- The weights lend a share to each of the two transfers in flight. -/
theorem w_split (c : Dev nD) :
    (((c : Thread nD τ).loc main_arg1) ↦{fullShare} wbuf m ρ c : sProp 𝕄) ⊢ iprop(wRest m ρ c ∗ wTok m ρ c 0 ∗ wTok m ρ c 1) :=
  (Transfers.pointsTo_toks_split fullShare 2).trans (sep_mono_right (Entails.of_eq (bigSep_two fun i => wTok m ρ c i)))
/-- The shares come back to the whole weights. -/
theorem w_join (c : Dev nD) :
    iprop(wRest m ρ c ∗ wTok m ρ c 0 ∗ wTok m ρ c 1) ⊢ (((c : Thread nD τ).loc main_arg1) ↦{fullShare} wbuf m ρ c : sProp 𝕄) :=
  (sep_mono_right (Entails.of_eq (bigSep_two fun i => wTok m ρ c i).symm)).trans (Transfers.pointsTo_toks_join fullShare 2)

end Cert.KernelIdeal.Exchange

end
-- ==== Proof.Deal.lean ====
/-
  What the launch deals each device: every shared cell put under its invariant, the tokens of the duties a device
  performs on its peers' cells, and the units its cells are promised.
-/
module

public import proofs.«01_k».proof.Proof.Slots

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The shared cells one by one -/

omit [FloatOps F] in
/-- A conjunction of three bracketed to the right. -/
theorem sep_regroup (P Q R : sProp 𝕄) : iprop((P ∗ Q) ∗ R) = iprop(P ∗ Q ∗ R) := BI.Entails.antisymm BI.sep_assoc BI.sep_assoc'
omit [FloatOps F] in
/-- A conjunction over the three peers spelt out in front of another part. -/
theorem each_assoc (Φ : Fin 3 → sProp 𝕄) (P : sProp 𝕄) : iprop(each Φ ∗ P) = iprop(Φ 0 ∗ Φ 1 ∗ Φ 2 ∗ P) := by
  unfold each; rw [sep_regroup, sep_regroup]

omit [FloatOps F] in
/-- A conjunction over a device's shared cells. -/
theorem bigSep_cells (Φ : KC → sProp 𝕄) :
    bigSep Finset.univ Φ = iprop(Φ kBar ∗ each (fun j => Φ (kXs j)) ∗ each (fun j => Φ (kXr j)) ∗ each (fun j => Φ (kAs j)) ∗ each fun j => Φ (kAr j)) := by
  rw [each_assoc, each_assoc, each_assoc]
  exact bigSep_univ_eq_bigSepL [kBar, kXs 0, kXs 1, kXs 2, kXr 0, kXr 1, kXr 2, kAs 0, kAs 1, kAs 2, kAr 0, kAr 1, kAr 2] (by decide) (by decide) Φ

/-- Different shared cells are different semaphore cells. -/
theorem kcell_injective : Function.Injective kcell := fun a b h =>
  Prod.ext (congrArg (fun g : GSem nD τ sig => g.1.1) h) (csem_injective (congrArg Prod.snd h))

/-- Every device's shared cells. -/
def myCells : Finset (GSem nD τ sig) := Finset.univ.map ⟨kcell, kcell_injective⟩

/-! ## The duties' tokens -/

/-- The duties towards peer `j` of a device and of that peer: the barrier unit, and of each of the two transfers its
    departure and its arrival. Numbered at the device whose cell it is. -/
def tk : Fin 3 × Fin 5 → KC × Fin 3
  | (j, 0) => (kBar, j.rev)
  | (j, 1) => (kXs j, 0)
  | (j, 2) => (kXr j.rev, 0)
  | (j, 3) => (kAs j, 0)
  | (j, 4) => (kAr j.rev, 0)
/-- Different duties have different tokens at one device. -/
theorem tk_injective : Function.Injective tk := by decide
/-- The token of a duty: the device's cell, the round, the duty's number. -/
def tokOf (x : Dev nD × (Fin 3 × Fin 5)) : GSem nD τ sig × ℕ × Fin 3 := (kcell (x.1, (tk x.2).1), 0, (tk x.2).2)
/-- Different duties have different tokens. -/
theorem tokOf_injective : Function.Injective tokOf := fun a b h => by
  have h1 := kcell_injective (congrArg Prod.fst h)
  have h2 : (tk a.2).2 = (tk b.2).2 := congrArg (fun x => x.2.2) h
  exact Prod.ext (congrArg (fun x => x.1) h1) (tk_injective (Prod.ext (congrArg (fun x => x.2) h1) h2))
/-- Every duty's token. -/
def myToks : Finset (GSem nD τ sig × ℕ × Fin 3) := Finset.univ.map ⟨tokOf, tokOf_injective⟩

/-- The tokens of the duties on device `c`'s own cells. -/
def toks (c : Dev nD) : sProp 𝕄 :=
  each fun j => iprop(dutyTok ER (kcell (c, kBar)) 0 j.rev ∗ (dutyTok ER (kcell (c, kXs j)) 0 0 ∗ dutyTok ER (kcell (c, kXr j.rev)) 0 0)
    ∗ dutyTok ER (kcell (c, kAs j)) 0 0 ∗ dutyTok ER (kcell (c, kAr j.rev)) 0 0)

/-- The tokens of the duties device `c` performs. -/
def payToks (c : Dev nD) : sProp 𝕄 :=
  each fun j => iprop(dutyTok ER (kcell (dv c j, kBar)) 0 j.rev ∗ sendToks c 0 j ∗ sendToks c 1 j)

omit [FloatOps F] in
/-- A conjunction over five, bracketed as the tokens of one peer are. -/
theorem bigSep_five (Φ : Fin 5 → sProp 𝕄) : bigSep Finset.univ Φ = iprop(Φ 0 ∗ (Φ 1 ∗ Φ 2) ∗ Φ 3 ∗ Φ 4) := by
  rw [sep_regroup]; exact bigSep_univ_eq_bigSepL [0, 1, 2, 3, 4] (by decide) (by decide) Φ
omit [FloatOps F] in
/-- The tokens on a device's cells, one by one, are `toks`. -/
theorem toks_eq (c : Dev nD) : bigSep Finset.univ (fun x : Fin 3 × Fin 5 => (dutyTok ER (tokOf (c, x)).1 (tokOf (c, x)).2.1 (tokOf (c, x)).2.2 : sProp 𝕄)) = toks c := by
  rw [bigSep_univ_prod, bigSep_each]
  unfold toks
  refine congrArg each (funext fun j => ?_)
  rw [bigSep_five]
  simp only [tokOf, tk]

omit [FloatOps F] in
/-- Dealt round the devices, each token reaches the device that performs its duty. -/
theorem toks_around : (bigSep Finset.univ fun c : Dev nD => (toks c : sProp 𝕄)) = bigSep Finset.univ fun c : Dev nD => payToks c := by
  have e (Φ : Dev nD → Fin 3 → sProp 𝕄) : (bigSep Finset.univ fun c => each (Φ c)) = each fun j => bigSep Finset.univ fun c => Φ c j := by
    rw [← bigSep_each, ← bigSep_univ_comm]; exact bigSep_congr fun c _ => (bigSep_each (Φ c)).symm
  unfold toks payToks sendToks
  rw [e, e]
  refine congrArg each (funext fun j => ?_)
  simp only [bigSep_sep']
  rw [bigSep_univ_equiv (shift j) (fun c : Dev nD => (dutyTok ER (kcell (c, kBar)) 0 j.rev : sProp 𝕄)),
    bigSep_univ_equiv (shift j) (fun c : Dev nD => (dutyTok ER (kcell (c, kXr j.rev)) 0 0 : sProp 𝕄)),
    bigSep_univ_equiv (shift j) (fun c : Dev nD => (dutyTok ER (kcell (c, kAr j.rev)) 0 0 : sProp 𝕄))]
  rfl

/-! ## The cells put under their invariants -/

/-- The kernel's own semaphores. -/
abbrev osem : Fin 15 → SemLoc sig := fun i => .dma ⟨2 + i.val, by have := i.isLt; show 2 + i.val < 17; omega⟩
/-- The kernel's own semaphores are not the pipeline's, and no two are the same. -/
theorem ownSemFacts : Pipeline.OwnSemFacts cfg0.spec osem := by decide

/-- The semaphores that stay the device's: one never used and the two of the weights' transfers. -/
def spare (c : Dev nD) : sProp 𝕄 :=
  iprop(semVal ((c : Thread nD τ), SemLoc.dma 11) 0 ∗ semVal ((c : Thread nD τ), SemLoc.dma 15) 0 ∗ semVal ((c : Thread nD τ), SemLoc.dma 16) 0)

omit [FloatOps F] in
/-- The kernel's own semaphores at zero, named one by one. -/
theorem ownSems0_eq (c : Dev nD) : (Pipeline.ownSems0 (Ix := Unit) (Name := ℕ) (U := UU) (Lvl := ℕ) (Val := Elt F) (τ := τ) osem c : sProp 𝕄)
    = iprop(each (fun j => semVal (kcell (c, kXs j)) 0) ∗ each (fun j => semVal (kcell (c, kXr j)) 0) ∗ each (fun j => semVal (kcell (c, kAs j)) 0)
        ∗ semVal ((c : Thread nD τ), SemLoc.dma 11) 0 ∗ each (fun j => semVal (kcell (c, kAr j)) 0)
        ∗ semVal ((c : Thread nD τ), SemLoc.dma 15) 0 ∗ semVal ((c : Thread nD τ), SemLoc.dma 16) 0) := by
  rw [each_assoc, each_assoc, each_assoc, each_assoc]
  rw [Pipeline.ownSems0_eq_of_list c osem [0, 1, 2, 3, 4, 5, 6, 7, 8, 9, 10, 11, 12, 13, 14] (by decide) (by decide)]; rfl
omit [FloatOps F] in
/-- The one semaphore outside the kernel's scope is the barrier. -/
theorem unscopedSems0_eq (c : Dev nD) : (unscopedSems0 c : sProp 𝕄) = semVal (kcell (c, kBar)) 0 := by
  unfold unscopedSems0; rw [bigSep_eq_bigSepL_of_eq [SemLoc.reg barS] (by decide) (by decide)]; rfl

/-- What the launch element deals device `c`. -/
def G (c : Dev nD) : sProp 𝕄 :=
  iprop((bigSep Finset.univ fun k : KC => roundState ER (Rd m ρ) (kcell (c, k)) 0)
    ∗ (bigSep Finset.univ fun k : KC => iprop(atPos ER (kcell (c, k)) 0 ∅ 0 ∗ reached ER (kcell (c, k)) 0)) ∗ toks c)
/-- What stays with device `c`. -/
def linear (c : Dev nD) : sProp 𝕄 := iprop((bigSep Finset.univ fun k : KC => atPos ER (kcell (c, k)) 0 ∅ 0) ∗ payToks c ∗ spare c)
/-- What the global step makes of it. -/
def G' (c : Dev nD) : sProp 𝕄 := iprop(∃ K, records m ρ K ∗ linear c)

/-- The launch element deals every device its cells' rounds and tokens. -/
theorem fund_cells : BI.own (ER (initOf myCells myToks)) ⊢ (|==> bigSep Finset.univ (G m ρ) : sProp 𝕄) := by
  have hX (Φ : GSem nD τ sig → sProp 𝕄) : bigSep myCells Φ = bigSep Finset.univ fun c : Dev nD => bigSep Finset.univ fun k : KC => Φ (kcell (c, k)) := by
    unfold myCells; rw [bigSep_map, bigSep_univ_prod]; rfl
  have hT : bigSep myToks (fun x => (dutyTok ER x.1 x.2.1 x.2.2 : sProp 𝕄)) = bigSep Finset.univ fun c : Dev nD => toks c := by
    unfold myToks; rw [bigSep_map, bigSep_univ_prod]
    exact bigSep_congr fun c _ => toks_eq c
  iintro HX
  imod (Rounds.fund ER (Rd m ρ) myCells myToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A device's semaphores at zero: those of its shared cells, and the spare ones. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : KC => semVal (kcell (c, k)) 0) ∗ spare c) : sProp 𝕄) := by
  rw [ownSems0_eq, unscopedSems0_eq, bigSep_cells]
  unfold spare
  iintro ⟨⟨H1, H2, H3, H4, H5, H6, H7⟩, HB⟩
  isplitl [H1 H2 H3 H5 HB]
  · isplitl [HB]; · iexact HB
    isplitl [H1]; · iexact H1
    isplitl [H2]; · iexact H2
    isplitl [H3]; · iexact H3
    iexact H5
  isplitl [H4]; · iexact H4
  isplitl [H6] <;> iassumption

/-- One device's shared semaphores at zero go under their cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c ∗ spare c) := by
  unfold G
  iintro ⟨Hos, Hus, Hst, Hat, Htok⟩
  ihave Hv := (sems0_eq (F := F) c) $$ [Hos Hus]
  · isplitl [Hos] <;> iassumption
  icases Hv with ⟨Hv, Hsp⟩
  imod (show iprop((bigSep Finset.univ fun k : KC => semVal (kcell (c, k)) 0) ∗ bigSep Finset.univ fun k : KC => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- All devices together: the cells' records are everyone's, the tokens go round. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c ∗ spare c) : sProp 𝕄)
      ⊢ bigSep Finset.univ (G' m ρ) := by
  rw [bigSep_sep', bigSep_sep', bigSep_sep', ← bigSep_univ_prod (fun ck : Dev nD × KC => iprop(∃ κ : ℕ, cellInv ER (Rd m ρ) κ (kcell ck))),
    bigSep_congr (s := Finset.univ) (fun (c : Dev nD) _ => bigSep_sep' Finset.univ (fun k : KC => (atPos ER (kcell (c, k)) 0 ∅ 0 : sProp 𝕄)) (fun k => reached ER (kcell (c, k)) 0)),
    bigSep_sep', ← bigSep_univ_prod (fun ck : Dev nD × KC => (reached ER (kcell ck) 0 : sProp 𝕄)), toks_around]
  iintro ⟨HI, ⟨Hat, #HR⟩, Htok, Hsp⟩
  ihave HK := (BI.bigSep_exists_pi Finset.univ (fun (ck : Dev nD × KC) (κ : ℕ) => (cellInv ER (Rd m ρ) κ (kcell ck) : sProp 𝕄))) $$ HI
  icases HK with ⟨%K, #HI⟩
  iapply (show iprop(records m ρ K ∗ bigSep Finset.univ linear) ⊢ bigSep Finset.univ (G' m ρ) from
    (sep_mono_left (BI.bigSep_of_persistent Finset.univ (records m ρ K))).trans (by
      rw [← bigSep_sep']
      exact bigSep_mono fun c _ => show iprop(records m ρ K ∗ linear c) ⊢ G' m ρ c from by unfold G'; iintro H; iexists K; iexact H))
  isplitr
  · unfold records; rw [bigSep_sep']; isplitl; · iexact HI
    iexact HR
  · unfold linear; rw [bigSep_sep', bigSep_sep']
    isplitl [Hat]; · iexact Hat
    isplitl [Htok] <;> iassumption

/-- The global step: the own and the barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The units promised to each cell -/

/-- What all devices together owe a cell. -/
def owedTo : KC → ℕ
  | none => 3
  | some (1, _) => Nx
  | some (3, _) => Na
  | _ => 0

/-- What all devices together owe a cell by their duty towards peer `j`. -/
theorem sum_tally (j : Fin 3) (c : Dev nD) (k k' : KC) (n : ℕ) :
    (∑ d : Dev nD, (tallyAt (kcell (dv d j, k')) () n : CellTallies nD τ sig Unit) (kcell (c, k)) ()) = if k = k' then n else 0 := by
  rw [show (∑ d : Dev nD, (tallyAt (kcell (dv d j, k')) () n : CellTallies nD τ sig Unit) (kcell (c, k)) ())
      = ∑ d : Dev nD, if d = c ∧ k = k' then n else 0 from (Equiv.sum_comp (shift j) fun d => (tallyAt (kcell (d, k')) () n : CellTallies nD τ sig Unit) (kcell (c, k)) ()).trans
        (Finset.sum_congr rfl fun d _ => (tallyAt_apply _ _ _ _ _).trans (if_congr
          ⟨fun h => by have := kcell_injective h.1; exact ⟨(congrArg Prod.fst this).symm, congrArg (fun x => x.2) this⟩, fun h => ⟨by rw [h.1, h.2], rfl⟩⟩ rfl rfl))]
  by_cases h : k = k'
  · simp only [h, and_true, if_true]; rw [Finset.sum_ite_eq' Finset.univ c fun _ => n, if_pos (Finset.mem_univ _)]
  · simp only [h, and_false, if_false, Finset.sum_const_zero]

/-- The tallies of all devices, cell by cell. -/
theorem sum_O₀ (c : Dev nD) (k : KC) : (∑ d : Dev nD, O₀ d (kcell (c, k)) ()) = owedTo k := by
  unfold O₀ OX OA
  simp only [Pi.add_apply, Finsupp.add_apply, Finset.sum_add_distrib, sum_tally]
  unfold owedTo
  generalize Nx = x; generalize Na = y
  rcases k with _ | ⟨p, s⟩
  · rfl
  · fin_cases p <;> fin_cases s <;> simp

/-- The launch credits a shared cell with what all devices owe it. -/
theorem launch_cell (c : Dev nD) (k : KC) :
    tallyOn (kcell (c, k)) (launchCredit (Pipeline.owing O₀) 0 (kcell (c, k))) = (tallyAt (kcell (c, k)) () (owedTo k) : CellTallies nD τ sig Unit) := by
  unfold tallyAt; refine congrArg _ (Finsupp.ext fun u => ?_); cases u
  rw [Pipeline.launchCredit_owing, Finsupp.single_eq_same, sum_O₀]

omit [FloatOps F] in
/-- A device's launch credit: three barrier units, three arrivals of activations, three of maxima. -/
theorem creds (c : Dev nD) :
    (Pipeline.launchCred O₀ c : sProp 𝕄) ⊢ iprop(cred (tallyAt (kcell (c, kBar)) () 3)
      ∗ each (fun j => cred (tallyAt (kcell (c, kXr j)) () Nx)) ∗ each fun j => cred (tallyAt (kcell (c, kAr j)) () Na)) := by
  unfold Pipeline.launchCred
  refine (bigSep_subset (Finset.subset_univ (Finset.univ.map ⟨csem, csem_injective⟩))).trans ?_
  rw [bigSep_map]
  refine (Entails.of_eq ((bigSep_congr (Ψ := fun k : KC => cred (tallyAt (kcell (c, k)) () (owedTo k))) fun k _ => congrArg cred (launch_cell c k)).trans
    (bigSep_cells _))).trans ?_
  iintro ⟨HB, -, HX, -, HA⟩
  isplitl [HB]; · iexact HB
  isplitl [HX]; · iexact HX
  iexact HA

end Cert.KernelIdeal.Exchange

end
-- ==== Proof.Point.lean ====
/-
  The launch's proof data of the kernel's one call, and its one point: the body with everything the launch hands it.
-/
module

public import proofs.«01_k».proof.Proof.Deal

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The call has one grid point. -/
theorem cfg0_N : cfg0.N = 1 := by decide
/-- The one grid point. -/
def t₀ : Fin cfg0.N := ⟨0, by rw [cfg0_N]; decide⟩
/-- Every grid point is that one. -/
theorem fin_N (t : Fin cfg0.N) : t = t₀ := by
  obtain ⟨t, ht⟩ := t; have := cfg0_N; exact Fin.ext (by simp only [t₀]; omega)

/-- The kernel's result on device `c`. -/
def outAt (c : Dev nD) : (cc0_stg1_0 : Ref sig .tc).ty.Contents (Elt F) := oBuf (outTile m ρ c)

/-- A device's weights, whole. -/
def wPts (c : Dev nD) : sProp 𝕄 := ((c : Thread nD τ).loc main_arg1) ↦{fullShare} wbuf m ρ c

/-- What device `c`'s body starts from besides its buffers: what it was dealt, the units promised, the levels, its weights. -/
def start (c : Dev nD) : sProp 𝕄 :=
  iprop((∃ K, records m ρ K ∗ linear c) ∗ (cred (tallyAt (kcell (c, kBar)) () 3)
      ∗ each (fun j => cred (tallyAt (kcell (c, kXr j)) () Nx)) ∗ each fun j => cred (tallyAt (kcell (c, kAr j)) () Na))
    ∗ levAts L lv ∗ wPts m ρ c)
/-- The three scratch buffers. -/
def scratch (c : Dev nD) : sProp 𝕄 := iprop(whole c cc0_scratch0 ∗ whole c cc0_scratch1 ∗ whole c cc0_scratch2)
/-- Before the body: what the device starts from, and its scratch buffers. -/
def Φ₀ (c : Dev nD) : sProp 𝕄 := iprop(start m ρ c ∗ scratch c)
/-- After the body: the weights as they were, every semaphore at zero, the scratch buffers. -/
def Φ₁ (c : Dev nD) : sProp 𝕄 :=
  iprop(wPts m ρ c ∗ unscopedSems0 c ∗ Pipeline.ownSems0 (Ix := Unit) (Name := ℕ) (U := UU) (Lvl := ℕ) (Val := Elt F) (τ := τ) osem c ∗ scratch c)

/-- The proof data of the call on device `c`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
/-- A conjunction over the two windows. -/
theorem bigSep_W (Φ : Fin cfg0.W → sProp 𝕄) : bigSep Finset.univ Φ = iprop(Φ (0 : Fin 2) ∗ Φ (1 : Fin 2)) := bigSep_W0 Φ

omit [FloatOps F] in
/-- A buffer owned at some contents, spelt out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What stays aside while the body runs. -/
def aside (c : Dev nD) : sProp 𝕄 := iprop(wRest m ρ c ∗ semVal ((c : Thread nD τ), SemLoc.dma 11) 0)

/-- Everything at the point's start makes what the body starts with. -/
theorem enter (c : Dev nD) :
    iprop(Φ₀ m ρ c ∗ (∃ W, owes (c : Thread nD τ) (O₀ c) W) ∗ (((c : Thread nD τ).loc cc0_stg0_0) ↦{fullShare} xstg m ρ c) ∗ ∃ f, oPts (F := F) c f)
      ⊢ iprop(∃ K, bodyIn m ρ K c ∗ aside m ρ c) := by
  unfold Φ₀ start linear payToks spare scratch wPts
  iintro ⟨⟨⟨⟨%K, HR, Hat, Htok, Hs11, Hs15, Hs16⟩, ⟨HcB, HcX, HcA⟩, Hlev, Hw⟩, Hg, Hb, Ha⟩, HO, Hx, Ho⟩
  iexists K
  ihave Hat := (Entails.of_eq (bigSep_cells fun k => (atPos ER (kcell (c, k)) 0 ∅ 0 : sProp 𝕄))) $$ Hat
  icases Hat with ⟨HtB, HtXs, HtXr, HtAs, HtAr⟩
  ihave Htok := (Entails.of_eq ((each_sep _ _).trans (congrArg (fun P => iprop(each (fun j => (dutyTok ER (kcell (dv c j, kBar)) 0 j.rev : sProp 𝕄)) ∗ P)) (each_sep (sendToks c 0) (sendToks c 1))))) $$ Htok
  icases Htok with ⟨HkB, HkX, HkA⟩
  ihave Hg := (g_split (F := F) c) $$ Hg
  ihave Hb := (b_split (F := F) c) $$ Hb
  icases Hb with ⟨Hb0, Hb1⟩
  ihave Ha := (a_split (F := F) c) $$ Ha
  icases Ha with ⟨Ha0, Ha⟩
  ihave Hx := (Entails.of_eq (x_blocks m ρ c)) $$ Hx
  icases Hx with ⟨Hxc, Hx⟩
  ihave Hw := (w_split m ρ c) $$ Hw
  icases Hw with ⟨Hwr, Hw0, Hw1⟩
  unfold bodyIn beforeSend aside
  isplitr [Hwr Hs11]
  · isplitl [Hlev]; · iexact Hlev
    isplitl [HR]; · iexact HR
    isplitl [Hg Ha HkB HcB HtB Hx HkX HO]
    · isplitl [Hg]; · iexact Hg
      isplitl [Ha]; · iexact Ha
      isplitl [HkB]; · iexact HkB
      isplitl [HcB]; · iexact HcB
      isplitl [HtB]; · iexact HtB
      isplitl [Hx]; · iexact Hx
      isplitl [HkX]; · iexact HkX
      iexact HO
    isplitl [Hxc]; · iexact Hxc
    isplitl [Hw0]; · iexact Hw0
    isplitl [Hw1]; · iexact Hw1
    isplitl [Ho]; · iexact Ho
    isplitl [Hb0]; · iexact Hb0
    isplitl [Hb1]; · iexact Hb1
    isplitl [Hs15]; · iexact Hs15
    isplitl [Hs16]; · iexact Hs16
    isplitl [Ha0]; · iexact Ha0
    isplitl [HkA]; · iexact HkA
    isplitl [HcX HtXr]
    · iapply (Entails.of_eq (each_sep (fun s => (cred (tallyAt (kcell (c, kXr s)) () Nx) : sProp 𝕄)) fun s => atPos ER (kcell (c, kXr s)) 0 ∅ 0).symm)
      isplitl [HcX] <;> iassumption
    isplitl [HcA HtAr]
    · iapply (Entails.of_eq (each_sep (fun s => (cred (tallyAt (kcell (c, kAr s)) () Na) : sProp 𝕄)) fun s => atPos ER (kcell (c, kAr s)) 0 ∅ 0).symm)
      isplitl [HcA] <;> iassumption
    isplitl [HtXs] <;> iassumption
  isplitl [Hwr] <;> iassumption

/-- What the body leaves makes everything at the point's end. -/
theorem leave (c : Dev nD) :
    iprop(bodyOut m ρ c ∗ aside m ρ c)
      ⊢ iprop(Φ₁ m ρ c ∗ (∃ W, owes (c : Thread nD τ) 0 W) ∗ (((c : Thread nD τ).loc cc0_stg0_0) ↦{fullShare} xstg m ρ c) ∗ oPts c (outAt m ρ c)) := by
  unfold bodyOut afterEnd aside Φ₁ scratch wPts outAt
  rw [ownSems0_eq, unscopedSems0_eq]
  iintro ⟨⟨⟨Ho, Hx, Ha0, HzXs, HzAs, HO⟩, Hxc, Hw0, Hw1, Hb0, Hb1, Hs15, Hs16, Hg, Ha, HzB, HzXr, HzAr⟩, Hwr, Hs11⟩
  isplitl [HzXs HzAs Hw0 Hw1 Hb0 Hb1 Hs15 Hs16 Hg Ha0 Ha HzB HzXr HzAr Hwr Hs11]
  · isplitl [Hwr Hw0 Hw1]
    · iapply (w_join m ρ c)
      isplitl [Hwr]; · iexact Hwr
      isplitl [Hw0] <;> iassumption
    isplitl [HzB]; · iexact HzB
    isplitl [HzXs HzAs HzXr HzAr Hs11 Hs15 Hs16]
    · isplitl [HzXs]; · iexact HzXs
      isplitl [HzXr]; · iexact HzXr
      isplitl [HzAs]; · iexact HzAs
      isplitl [Hs11]; · iexact Hs11
      isplitl [HzAr]; · iexact HzAr
      isplitl [Hs15] <;> iassumption
    isplitl [Hg]; · iapply (g_join m ρ c); iexact Hg
    isplitl [Hb0 Hb1]
    · iapply (b_join (F := F) c)
      isplitl [Hb0] <;> iassumption
    iapply (a_join m ρ c)
    isplitl [Ha0] <;> iassumption
  isplitl [HO]; · iexact HO
  isplitl [Hxc Hx]
  · iapply (Entails.of_eq (x_blocks m ρ c).symm)
    isplitl [Hxc] <;> iassumption
  iexact Ho

/-- What the body starts from at its point: the state before, what it owes, and the two windows' buffers. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- What the body leaves: the state after, nothing owed, `x` as it was, and the result. -/
def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- The body at the point. -/
theorem point (c : Dev nD) : bodyPre m ρ c ⊢ wp frame (wpE (defs₀ (F := F)) 𝒱₀ (c : Thread nD τ) none) Set.univ (groups (F := F)) (fun _ => bodyPost m ρ c) := by
  unfold bodyPre
  iintro ⟨HΦ, Ho, ⟨%d0, %g0, %hg0, Hx⟩, ⟨%d1, %g1, %hg1, Hout⟩⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  ihave H := (enter m ρ c) $$ [HΦ HO Hx Hout]
  · isplitl [HΦ]; · iexact HΦ
    isplitl [HO]; · iexists W; iexact HO
    isplitl [Hx]; · iexact Hx
    unfold oPts; iexists g1; iexact Hout
  icases H with ⟨%K, Hin, Has⟩
  iapply ((body_run m ρ K c).trans (wp_wand _ _ _)) $$ Hin
  iintro %_ Hbody
  ihave H := (leave m ρ c) $$ [Hbody Has]
  · isplitl [Hbody] <;> iassumption
  icases H with ⟨HΦ, ⟨%W', HO⟩, Hx, Ho⟩
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  unfold oPts; iexact Ho

/-- The same of the body as the call runs it. -/
theorem point' (c : Dev nD) : bodyPre m ρ c ⊢ wp frame (wpE (defs₀ (F := F)) 𝒱₀ (c : Thread nD τ) none) Set.univ
    (cc0_body xM (Memref.isWhole_whole _) wM (Memref.isWhole_whole _) oM (Memref.isWhole_whole _) gM (Memref.isWhole_whole _)
      bM (Memref.isWhole_whole _) aM (Memref.isWhole_whole _) cc0_scratch3 cc0_scratch4 cc0_scratch5 cc0_scratch6 cc0_scratch7) (fun _ => bodyPost m ρ c) :=
  (point m ρ c).trans (Entails.of_eq (congrArg (fun p => wp frame (wpE (defs₀ (F := F)) 𝒱₀ (c : Thread nD τ) none) Set.univ p (fun _ => bodyPost m ρ c)) (body_groups (F := F)).symm))

set_option maxRecDepth 65536 in
/-- The call's obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body xM (Memref.isWhole_whole _) wM (Memref.isWhole_whole _) oM (Memref.isWhole_whole _) gM (Memref.isWhole_whole _)
      bM (Memref.isWhole_whole _) aM (Memref.isWhole_whole _) cc0_scratch3 cc0_scratch4 cc0_scratch5 cc0_scratch6 cc0_scratch7) (fun _ => bodyPost m ρ c)
  exact point' m ρ c

end Cert.KernelIdeal.Exchange

end
-- ==== Proof.Run.lean ====
/-
  The run of the kernel on the four devices: it ends, with each device's result computed, its arguments as they were and
  every semaphore at zero.
-/
module

public import proofs.«01_k».proof.Proof.Point
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- Every window's array is held whole. -/
theorem share_eq (c : Dev nD) (w : Fin cfg0.W) : (dats m ρ 0 c).share w = fullShare := by unfold Dat.share; split <;> rfl

/-- The launch's element of the resource algebra: the pipeline's rounds, the exchange's, no counters yet. -/
def u₀ : UU :=
  (initOf (Pipeline.cells cfgs cellOf_inj) (Pipeline.launchToks cfgs cellOf_inj), (initOf myCells myToks, (1 : Counters)))

omit [FloatOps F] in
/-- The launch's element gives the pipeline its part and the exchange its part. -/
theorem u₀_parts : (ownU u₀ : sProp 𝕄)
    ⊢ iprop(BI.own (EP (initOf (Pipeline.cells cfgs cellOf_inj) (Pipeline.launchToks cfgs cellOf_inj))) ∗ BI.own (ER (initOf myCells myToks))) := by
  unfold u₀
  iintro Hu
  ihave H := (ownU_pair _ _) $$ Hu
  icases H with ⟨HP, HX⟩
  isplitl [HP]; · iexact HP
  ihave H := (own_pair_emb embR (initOf myCells myToks) (1 : Counters)) $$ HX
  icases H with ⟨HX, -⟩
  iexact HX

/-- What the launch deals a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  imodintro
  unfold start G' wPts
  isplitl
  · isplitl [HG]; · iexact HG
    isplitl [Hc]; · iexact Hc
    isplitl [Hlev]; · iexact Hlev
    iexact Hw
  · iempintro

/-- With the scratch buffers it is the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch whole
  iintro ⟨Hs, -, Hr⟩
  isplitl [Hs]; · iexact Hs
  iexact Hr

/-- What is read at the end besides the arrays: the weights, and the barrier at zero. -/
def final (c : Dev nD) : sProp 𝕄 := iprop(wPts m ρ c ∗ unscopedSems0 c)

/-- The state after the body gives back the weights, the semaphores at zero and the scratch buffers. -/
theorem phi1_exit (c : Dev nD) :
    (dats m ρ 0 c).Φ (Fin.last cfg0.N) ⊢ iprop(final m ρ c ∗ Pipeline.ownSems0 osem c ∗ Pipeline.scopedRest cfg0.spec c) := by
  rw [show (dats m ρ 0 c).Φ (Fin.last cfg0.N) = Φ₁ m ρ c from rfl, scopedRest0_eq]
  unfold Φ₁ final scratch whole
  iintro ⟨Hw, Hu, Hs, Hr⟩
  isplitl [Hw Hu]
  · isplitl [Hw] <;> iassumption
  isplitl [Hs] <;> iassumption

/-- The pipeline's own waits are below everything that is owed. -/
theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> decide) (by
      rcases t with ⟨_ | _, ht⟩
      · exact above_O₀ c
      · exact Above.zero)

/-- The window's array of a device at the end. -/
def finalA (c : Dev nD) (w : Fin cfg0.W) : Buf (Elt F) ((cfg0.win w).arr.view.loc (c : Thread nD τ)) := (dats m ρ 0 c).arrAt w cfg0.N

/-- The end of the run: the windows' arrays as computed, the weights as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = wbuf m ρ c

/-- The weights and the barrier read off the last state. -/
theorem final_read (c : Dev nD) (s' : Phys nD τ sig (Elt F)) :
    iprop(final m ρ c ∗ SI s') ⊢ |={Set.univ}=> iprop(⌜(∀ sm : SemLoc sig, sm.isScoped .tc = false → s'.mem.sem ((c.tc : Thread nD τ), sm) = 0)
      ∧ s'.mem.mem ((c : Thread nD τ).loc main_arg1) = wbuf m ρ c⌝ ∗ SI s') := by
  unfold final wPts
  iintro ⟨⟨Hw, Hu⟩, HSI⟩
  imod (Pipeline.unscopedSems0_read (X := (unscopedSems0 c : sProp 𝕄)) (c := c) fupd_intro s') $$ [Hu HSI] with ⟨%hsem, HSI⟩
  · isplitl [Hu] <;> iassumption
  ihave H := (pointsTo_read_all (Ix := Unit) (Name := ℕ) (U := UU) (Lvl := ℕ) {()} (fun _ : Unit => (c : Thread nD τ).loc main_arg1) (fun _ => wbuf m ρ c) s') $$ [Hw HSI]
  · isplitl [Hw]
    · rw [bigSep_singleton]; iexact Hw
    iexact HSI
  icases H with ⟨%hw, HSI⟩
  imodintro
  isplitr
  · ipureintro; exact ⟨hsem, hw () (Finset.mem_singleton_self _)⟩
  iexact HSI

set_option maxRecDepth 65536 in
/-- For any float values, from any memory with zero counters, every weakly fair execution on the four devices ends; in
    every final state each device's result array is as computed, its arguments are as they were, and every semaphore
    is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      iintro Hu
      ihave H := (u₀_parts (F := F)) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := final m ρ) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = wbuf m ρ c)
    (hY := fun c s' => by
      iintro ⟨Hu, -, HSI⟩
      iapply (final_read m ρ c s')
      isplitl [Hu] <;> iassumption)
    (hQ := fun _ h hs => ⟨fun c => ⟨(h c).1, (h c).2.2.2⟩, sem_eq_zero hs fun c => (h c).2.2.1⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The `x` window is the whole array: the staged block is the array's contents. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array after the run is what the body left in its staging buffer. -/
theorem finalA_out (c : Dev nD) : finalA m ρ c (1 : Fin 2) = outAt m ρ c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have h := (dats (F := F) m ρ 0 c).arrAt_succ (1 : Fin 2) t₀
  rw [if_pos (by decide)] at h
  have h' := congrArg (fun f => View.read (Elt F) (win0_1.blk t₀).view f) h
  exact (hr _).symm.trans (h'.trans (View.read_write_univ _ _))

end Cert.KernelIdeal.Exchange

end
-- ==== Proof.Frames.lean ====
/-
  The frames: the kernel, read at either kind of float, ends with its arguments as they were and every semaphore at zero.

  The kernel as printed and the kernel as idealized are the same text (no operation was rewritten), so one run serves both:
  it is proved for any float values, and carried from one program's names to the other's.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Frames

open Idealize.ShloMosaic Idealize.ShloMosaic.TcCoe Idealize.SL.Sem

section

variable {F : FTy → Type} [FloatOps F]

/-- The two printed kernels have one body. -/
theorem body_same : Cert.Kernel.cc0_body (F := F) = Cert.KernelIdeal.cc0_body (F := F) := rfl

/-- At the one label the two tables of bodies agree. -/
theorem label_same (x) : Cert.Kernel.defs₀ (F := F) .tc 0 x = Cert.KernelIdeal.defs₀ (F := F) .tc 0 x := rfl

/-- So the two tables of bodies are one. -/
theorem bodies_same : Cert.Kernel.defs₀ (F := F) = Cert.KernelIdeal.defs₀ (F := F) := by
  funext κ l x
  cases κ
  · fin_cases l
    exact label_same x
  all_goals rfl

/-- And with each call's pipeline adjoined. -/
theorem defs_same : Cert.Kernel.defs (F := F) = Cert.KernelIdeal.defs (F := F) :=
  congrArg (Pipeline.defs (Cert.KernelIdeal.pcfgs (F := F))) bodies_same

/-- The two programs are one. -/
theorem main_same : Cert.Kernel.main (F := F) = Cert.KernelIdeal.main (F := F) := rfl

/-- The kernel's run with the arguments read off: `x` and `w` are as they were on every device, every semaphore at zero. -/
theorem args_kept (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run _ _ _).mono (fun _ h => ⟨fun c => ⟨((h.1 c).1 (0 : Fin 2)).trans (Cert.KernelIdeal.Exchange.finalA_x m g c), (h.1 c).2⟩, h.2⟩)
    (Cert.KernelIdeal.Exchange.run_main m g)

/-- The same of the kernel under its first names. -/
theorem args_kept' (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0) := by
  rw [defs_same]
  exact args_kept m g

end

/-- The printed kernel's frame. -/
theorem kernel : Cert.quiescent_Kernel (hKernel := Cert.Kernel.Gen.facts) := fun m g _ => args_kept' m g

/-- The idealized kernel's frame. -/
theorem kernelIdeal : Cert.quiescent_KernelIdeal (hKernelIdeal := Cert.KernelIdeal.Gen.facts) := fun m g _ => args_kept m g

/-- The reference touches no semaphore and writes no argument. -/
theorem referenceIdeal : Cert.quiescent_ReferenceIdeal (hReferenceIdeal := Cert.ReferenceIdeal.Gen.facts) := fun m g _ =>
  (θ_run _ _ _).mono (fun _ h => ⟨fun c => (h c).2, funext fun x => by rcases x with ⟨_, sm⟩; rcases sm with i | i <;> exact i.elim0⟩) (Cert.ReferenceIdeal.Value.run m g)

end Cert.Frames

end
-- ==== Proof.Product.lean ====
/-
  The product the kernel builds, at exact arithmetic: the four parts of a column block sum to the rows of `x · w` the device
  keeps.
-/
module

public import proofs.«01_k».proof.Proof.Proto
public import Idealize.ShloMosaic.Lib.ValueIdx
public import Idealize.ShloMosaic.Lib.MatmulPlain
public import Idealize.ShloMosaic.Lib.LayoutAt

@[expose] public section

noncomputable section

namespace Cert.KernelIdeal.Exchange

open Cert.KernelIdeal Cert.KernelIdeal.Gen
open Idealize.ShloMosaic Idealize.ShloMosaic.TcCoe Idealize.ShloMosaic.ValueIdx

/-- The whole arrays `x` and `w`. -/
abbrev WholeX : Type := (⟨2, ![4096, 4096]⟩ : Shape).Idx → EReal
/-- The whole weights. -/
abbrev WholeW : Type := (⟨2, ![4096, 8192]⟩ : Shape).Idx → EReal

/-- Row `r` of `x` times column `n` of `w`, over all 4096 terms. -/
def dotAt (X : WholeX) (W : WholeW) (r : Fin 4096) (n : Fin 8192) : EReal := ∑ k : Fin 4096, X (ix2 r k) * W (ix2 k n)

/-- Place `i` of block `b` on an axis cut in blocks of 1024. -/
def at4 (b : Fin 4) (i : Fin 1024) : Fin 4096 := ⟨1024 * b.val + i.val, by have := b.isLt; have := i.isLt; omega⟩
/-- Element `i` of column block `b`. -/
def at8 (b : Fin 8) (i : Fin 1024) : Fin 8192 := ⟨1024 * b.val + i.val, by have := b.isLt; have := i.isLt; omega⟩

/-- The terms of block `b` of the contracted axis. -/
def dotPart (X : WholeX) (W : WholeW) (b : Fin 4) (r : Fin 4096) (n : Fin 8192) : EReal :=
  ∑ k : Fin 1024, X (ix2 r (at4 b k)) * W (ix2 (at4 b k) n)

/-- A sum over 4096 places is the sum over the four blocks of the sums over their 1024. -/
theorem sum_blocks (f : Fin 4096 → EReal) : ∑ k, f k = ∑ b : Fin 4, ∑ k : Fin 1024, f (at4 b k) := by
  rw [← Fintype.sum_prod_type']
  refine (Equiv.sum_comp (finProdFinEquiv (m := 4) (n := 1024)) f).symm.trans (Finset.sum_congr rfl fun p _ => congrArg f (Fin.ext ?_))
  show p.2.val + 1024 * p.1.val = 1024 * p.1.val + p.2.val
  omega

/-- The whole product's entry is the four parts, begun at any device and taken in the kernel's order. -/
theorem dotAt_parts (X : WholeX) (W : WholeW) (c : Dev nD) (r : Fin 4096) (n : Fin 8192) :
    dotPart X W c r n + dotPart X W (dv c 0) r n + dotPart X W (dv c 2) r n + dotPart X W (dv c 1) r n = dotAt X W r n := by
  unfold dotAt
  rw [sum_blocks, Fin.sum_univ_four]
  change _ = dotPart X W 0 r n + dotPart X W 1 r n + dotPart X W 2 r n + dotPart X W 3 r n
  have h0 : dv 0 0 = 1 ∧ dv 0 1 = 2 ∧ dv 0 2 = 3 := by decide
  have h1 : dv 1 0 = 2 ∧ dv 1 1 = 3 ∧ dv 1 2 = 0 := by decide
  have h2 : dv 2 0 = 3 ∧ dv 2 1 = 0 ∧ dv 2 2 = 1 := by decide
  have h3 : dv 3 0 = 0 ∧ dv 3 1 = 1 ∧ dv 3 2 = 2 := by decide
  fin_cases c
  · show dotPart X W 0 r n + dotPart X W (dv 0 0) r n + dotPart X W (dv 0 2) r n + dotPart X W (dv 0 1) r n = _
    rw [h0.1, h0.2.1, h0.2.2]; abel
  · show dotPart X W 1 r n + dotPart X W (dv 1 0) r n + dotPart X W (dv 1 2) r n + dotPart X W (dv 1 1) r n = _
    rw [h1.1, h1.2.1, h1.2.2]; abel
  · show dotPart X W 2 r n + dotPart X W (dv 2 0) r n + dotPart X W (dv 2 2) r n + dotPart X W (dv 2 1) r n = _
    rw [h2.1, h2.2.1, h2.2.2]; abel
  · show dotPart X W 3 r n + dotPart X W (dv 3 0) r n + dotPart X W (dv 3 2) r n + dotPart X W (dv 3 1) r n = _
    rw [h3.1, h3.2.1, h3.2.2]; abel

/-- The kernel's product of two blocks, entry by entry. -/
theorem mm_at (x : FVec Ideal S1024x1024 .bf16) (w : Vec Ideal S1024x1024 .f32) (r n : Fin 1024) :
    mm x w (ix2 r n) = ∑ k : Fin 1024, (x (ix2 r k) : EReal) * (w (ix2 k n) : EReal) := by
  have h := Ideal.matmul_plain_apply (M := 1024) (K := 1024) (N := 1024) none x (truncf .bf16 w bitsLt_bf16_f32)
    (constant (F := Ideal) S1024x1024 .f32 0x00000000#32) r n
  refine Eq.trans h ?_
  refine (congrArg (· + _) (show constant (F := Ideal) S1024x1024 .f32 0x00000000#32 (ix2 r n) = (0 : EReal) from Ideal.ofBits_zero_f32)).trans ?_
  exact zero_add _

section

variable (m : (ℓ : Loc nD τ sig) → Buf (Elt Ideal) ℓ) (ρ : Dev nD → PrngReg)

/-- The launch holds `x` cut by columns and `w` whole on every device. -/
structure Holds (X : WholeX) (W : WholeW) : Prop where
  x : ∀ c : Dev nD, xstg m ρ c = Layout.block ⟨2, ![4096, 1024]⟩ ⟨2, ![4096, 4096]⟩ 1 4 c X
  w : ∀ c : Dev nD, wbuf m ρ c = W

variable {m ρ} {X : WholeX} {W : WholeW}

/-- Row block `b` of device `d`'s `x` in the whole array. -/
theorem xblk_at (H : Holds m ρ X W) (d b : Dev nD) (i k : Fin 1024) : xblk m ρ d b (ix2 i k) = X (ix2 (at4 b i) (at4 d k)) := by
  have h : xblk m ρ d b (ix2 i k) = xstg m ρ d (ix2 (at4 b i) k) := by
    refine congrArg (xstg m ρ d) (funext fun a => ?_)
    match a with
    | 0 => exact Fin.ext (by show 1024 * b.val + 1 * i.val = 1024 * b.val + i.val; omega)
    | 1 => exact Fin.ext (by show 0 + 1 * k.val = k.val; omega)
  rw [h, H.x d]
  refine congrArg X (funext fun a => ?_)
  match a with
  | 0 => exact Fin.ext rfl
  | 1 => exact Fin.ext (by show d.val * 1024 + k.val = 1024 * d.val + k.val; omega)

/-- Tile `(b, n)` of any device's weights in the whole array. -/
theorem wblk_at (H : Holds m ρ X W) (c b : Dev nD) (n : Fin 8) (k j : Fin 1024) : wblk m ρ c b n (ix2 k j) = W (ix2 (at4 b k) (at8 n j)) := by
  have h : wblk m ρ c b n (ix2 k j) = wbuf m ρ c (ix2 (at4 b k) (at8 n j)) := by
    refine congrArg (wbuf m ρ c) (funext fun a => ?_)
    match a with
    | 0 => exact Fin.ext (by show 1024 * b.val + 1 * k.val = 1024 * b.val + k.val; omega)
    | 1 => exact Fin.ext (by show 1024 * n.val + 1 * j.val = 1024 * n.val + j.val; omega)
  rw [h, H.w c]

/-- The part from device `b` is block `b`'s terms of the whole product. -/
theorem part_at (H : Holds m ρ X W) (c b : Dev nD) (n : Fin 8) (i j : Fin 1024) :
    part m ρ c b n (ix2 i j) = dotPart X W b (at4 c i) (at8 n j) := by
  unfold part dotPart
  rw [mm_at]
  exact Finset.sum_congr rfl fun k _ => by rw [xblk_at H, wblk_at H]

/-- A finished column block is the whole product's. -/
theorem acc_at (H : Holds m ρ X W) (c : Dev nD) (n : Fin 8) (i j : Fin 1024) :
    acc m ρ c n 3 (ix2 i j) = dotAt X W (at4 c i) (at8 n j) := by
  refine Eq.trans ?_ (dotAt_parts X W c (at4 c i) (at8 n j))
  show part m ρ c c n (ix2 i j) + part m ρ c (dv c 0) n (ix2 i j) + part m ρ c (dv c 2) n (ix2 i j) + part m ρ c (dv c 1) n (ix2 i j) = _
  rw [part_at H, part_at H, part_at H, part_at H]

end

end Cert.KernelIdeal.Exchange

end
-- ==== Proof.Maximum.lean ====
/-
  The maximum the kernel agrees on, at exact arithmetic: on every device it is zero or the largest entry of the whole product.
  A maximum is told by the numbers that bound it.
-/
module

public import proofs.«01_k».proof.Proof.Product
public import Idealize.ShloMosaic.Lib.Pipeline.Value
public import Idealize.ShloMosaic.PureOps.Reduce
public import Idealize.ShloMosaic.PureOps.Ideal.Laws

@[expose] public section

noncomputable section

namespace Cert.KernelIdeal.Exchange

open Cert.KernelIdeal Cert.KernelIdeal.Gen
open Idealize.ShloMosaic Idealize.ShloMosaic.TcCoe Idealize.ShloMosaic.ValueIdx

/-- The kernel's start for a maximum, minus infinity. -/
theorem ofBits_bot : Ideal.ofBits .f32 0xFF800000#32 = (⊥ : EReal) := by simp [Ideal.ofBits, Ideal.ieee]

/-- The maximum of two extended reals, as the programs write it. -/
theorem max_of (a b : EReal) : (Scalar.maximumf (F := Ideal) (φ := .f32) a b : EReal) = max a b := rfl

/-- A tile seen as a stack of one tile. -/
theorem stacked_at (t : FVec Ideal S1024x1024 .f32) (i j : Fin 1024) :
    shapeCast S1x1024x1024 t shapeCasts_S1024x1024_S1x1024x1024 (ix3 0 i j) = t (ix2 i j) := by
  refine (shapeCast_addUnit_apply (n := 2) ![1024, 1024] t shapeCasts_S1024x1024_S1x1024x1024 (ix3 0 i j)).trans (congrArg t (funext fun a => ?_))
  match a with
  | 0 => rfl
  | 1 => rfl

/-- A tile's maximum is the one entry of the reduced stack. -/
theorem tmax_entry (t : FVec Ideal S1024x1024 .f32) : ∃ J : S1.Idx, tmax t = multiReduction .maximumf [1, 2] S1
    (shapeCast S1x1024x1024 t shapeCasts_S1024x1024_S1x1024x1024) 0xFF800000#32 reduces_S1x1024x1024_S1 (.inl rfl) rfl J := by
  unfold tmax extractAt shapeCast
  exact ⟨_, rfl⟩

/-- A number bounds a tile's maximum when it bounds the tile. -/
theorem tmax_le (t : FVec Ideal S1024x1024 .f32) (z : EReal) : (tmax t : EReal) ≤ z ↔ ∀ i j : Fin 1024, (t (ix2 i j) : EReal) ≤ z := by
  have hs : ∀ a b : S1.Idx, a = b := fun a b => funext fun d => by
    match d with
    | 0 => exact Subsingleton.elim (α := Fin 1) _ _
  obtain ⟨J, hJ⟩ := tmax_entry t
  have hm := multiReduction_maximumf_eq_fold (F := Ideal) (shapeCast S1x1024x1024 t shapeCasts_S1024x1024_S1x1024x1024) 0xFF800000#32
    reduces_S1x1024x1024_S1 (.inl rfl) rfl J
  refine (iff_of_eq (congrArg (fun y : EReal => y ≤ z) (hJ.trans hm))).trans ?_
  refine (Finset.fold_max_le (b := (Ideal.ofBits .f32 0xFF800000#32 : EReal)) z).trans ?_
  rw [ofBits_bot]
  constructor
  · rintro ⟨-, h⟩ i j
    rw [← stacked_at t i j]
    exact h _ (Finset.mem_filter.mpr ⟨Finset.mem_univ _, hs _ _⟩)
  · refine fun h => ⟨bot_le, fun x _ => ?_⟩
    have hx : x = ix3 (0 : Fin 1) (x 1) (x 2) := (eq_ix3 x).trans (congrArg (fun y : Fin 1 => ix3 y (x 1) (x 2)) (Subsingleton.elim (α := Fin 1) (x 0) 0))
    rw [hx]
    exact (stacked_at t (x 1) (x 2)).trans_le (h _ _)

section

variable {m : (ℓ : Loc nD τ sig) → Buf (Elt Ideal) ℓ} {ρ : Dev nD → PrngReg} {X : WholeX} {W : WholeW}

/-- The running maximum starts at zero, -/
theorem runMax_zero (c : Dev nD) : runMax m ρ c 0 = Scalar.ofBits .f32 0x00000000#32 := rfl
/-- and takes in one column block at a time. -/
theorem runMax_succ (c : Dev nD) (k : ℕ) : runMax m ρ c (k + 1) = Scalar.maximumf (runMax m ρ c k) (tmax (acc m ρ c (Fin.ofNat 8 k) 3)) := rfl

/-- A number bounds the running maximum when it bounds zero and the entries met. -/
theorem runMax_le (H : Holds m ρ X W) (c : Dev nD) (z : EReal) (k : ℕ) : (runMax m ρ c k : EReal) ≤ z
    ↔ 0 ≤ z ∧ ∀ n < k, ∀ i j : Fin 1024, dotAt X W (at4 c i) (at8 (Fin.ofNat 8 n) j) ≤ z := by
  induction k with
  | zero =>
    rw [runMax_zero]
    refine (iff_of_eq (congrArg (fun y : EReal => y ≤ z) Ideal.ofBits_zero_f32)).trans ?_
    exact ⟨fun h => ⟨h, fun n hn => absurd hn (Nat.not_lt_zero n)⟩, fun h => h.1⟩
  | succ k ih =>
    rw [runMax_succ, max_of, max_le_iff, ih, tmax_le]
    constructor
    · rintro ⟨⟨h0, h⟩, h'⟩
      refine ⟨h0, fun n hn i j => ?_⟩
      rcases Nat.lt_succ_iff_lt_or_eq.mp hn with h1 | rfl
      · exact h n h1 i j
      · exact (acc_at H c _ i j).symm.trans_le (h' i j)
    · rintro ⟨h0, h⟩
      exact ⟨⟨h0, fun n hn => h n (Nat.lt_succ_of_lt hn)⟩, fun i j => (acc_at H c _ i j).trans_le (h k (Nat.lt_succ_self k) i j)⟩

/-- A device's own maximum: zero or the largest entry of its rows. -/
theorem amax_le (H : Holds m ρ X W) (c : Dev nD) (z : EReal) : (amax m ρ c : EReal) ≤ z
    ↔ 0 ≤ z ∧ ∀ (i : Fin 1024) (n : Fin 8192), dotAt X W (at4 c i) n ≤ z := by
  refine (runMax_le H c z 8).trans (and_congr_right fun _ => ⟨fun h i n => ?_, fun h n _ i j => h i _⟩)
  have hn := n.isLt
  have e : at8 (Fin.ofNat 8 (n.val / 1024)) ⟨n.val % 1024, Nat.mod_lt _ (by decide)⟩ = n := Fin.ext (by
    show 1024 * (n.val / 1024 % 8) + n.val % 1024 = n.val
    omega)
  have h' := h (n.val / 1024) (by omega) i ⟨n.val % 1024, Nat.mod_lt _ (by decide)⟩
  rwa [e] at h'

/-- Every row is some device's. -/
theorem rows_cover (r : Fin 4096) : ∃ (b : Fin 4) (i : Fin 1024), at4 b i = r :=
  ⟨⟨r.val / 1024, by have := r.isLt; omega⟩, ⟨r.val % 1024, Nat.mod_lt _ (by decide)⟩, Fin.ext (by
    show 1024 * (r.val / 1024) + r.val % 1024 = r.val
    omega)⟩

/-- A device is another or one of its peers. -/
theorem device_or_peer : ∀ c d : Dev nD, d = c ∨ d = dv c 0 ∨ d = dv c 1 ∨ d = dv c 2 := by decide

/-- What holds of a device and its three peers holds of all. -/
theorem all_devices (c : Dev nD) {P : Dev nD → Prop} : (((P c ∧ P (dv c 0)) ∧ P (dv c 1)) ∧ P (dv c 2)) ↔ ∀ d, P d := by
  refine ⟨fun ⟨⟨⟨h, h0⟩, h1⟩, h2⟩ d => ?_, fun h => ⟨⟨⟨h _, h _⟩, h _⟩, h _⟩⟩
  have hd := device_or_peer c d
  rcases hd with rfl | rfl | rfl | rfl <;> assumption

/-- The agreed maximum: zero or the largest entry of the whole product. -/
theorem gmax_le (H : Holds m ρ X W) (c : Dev nD) (z : EReal) : (gmax m ρ c : EReal) ≤ z
    ↔ 0 ≤ z ∧ ∀ (r : Fin 4096) (n : Fin 8192), dotAt X W r n ≤ z := by
  unfold gmax
  rw [max_of, max_of, max_of, max_le_iff, max_le_iff, max_le_iff, all_devices c (P := fun d => (amax m ρ d : EReal) ≤ z)]
  constructor
  · refine fun h => ⟨((amax_le H c z).mp (h c)).1, fun r n => ?_⟩
    have hr := r.isLt
    obtain ⟨b, i, e⟩ := rows_cover r
    exact e ▸ ((amax_le H b z).mp (h b)).2 i n
  · exact fun h d => (amax_le H d z).mpr ⟨h.1, fun i n => h.2 _ n⟩

end

end Cert.KernelIdeal.Exchange

end
-- ==== Proof.Entry.lean ====
/-
  The entries of the two results, at exact arithmetic: both are the quantiser at the whole product's entry, with the step from
  the whole product's largest entry; so they agree.
-/
module

public import proofs.«01_k».proof.Proof.Maximum
public import proofs.«01_k».proof.Proof.Run
public import proofs.«01_k».proof.Proof.Gen.ReferenceIdeal.Run
public import Idealize.ShloMosaic.Lib.IdealHost
public import Idealize.ShloMosaic.Lib.StackMember

@[expose] public section

noncomputable section

namespace Cert.Entry

open Idealize.ShloMosaic Idealize.ShloMosaic.TcCoe Idealize.ShloMosaic.ValueIdx
open Cert.KernelIdeal.Exchange (WholeX WholeW dotAt Holds at4 at8 max_of ofBits_bot)

/-- The quantiser's step for a maximum `a`. -/
def stepOf (a : EReal) : EReal := Ideal.div (max a (Ideal.ofBits .f32 0x0DA24260#32)) (Ideal.ofBits .f32 0x42FE0000#32)

/-- The quantiser at one entry: clipped at zero, to whole steps between `-127` and `127`, and back. -/
def quantAt (s y : EReal) : EReal :=
  min (Ideal.ofBits .f32 0x42FE0000#32) (max (Ideal.ofBits .f32 0xC2FE0000#32)
    (Ideal.liftRound Ideal.roundHalfEven (Ideal.div (max y (Ideal.ofBits .f32 0x00000000#32)) s))) * s

/-! ## The reference -/

section

open Cert.ReferenceIdeal Cert.ReferenceIdeal.Gen

/-- The whole product. -/
def prod (X : WholeX) (W : WholeW) : FVec Ideal S4096x8192 .f32 :=
  Host.dotGeneral (φ₁ := .f32) (φ₂ := .f32) dot_S4096x4096_S4096x8192_S4096x8192_1_0_0_1_n_n none (extf .f32 (X : FVec Ideal S4096x4096 .bf16) bitsLt_bf16_f32 : FVec Ideal S4096x4096 .f32) (W : FVec Ideal S4096x8192 .f32)
/-- The product clipped at zero. -/
def relu (Y : FVec Ideal S4096x8192 .f32) : FVec Ideal S4096x8192 .f32 :=
  maximumf Y (broadcastInDim S4096x8192 ![] bcast_S_S4096x8192 (constant S_ .f32 0x00000000#32))
/-- Its largest magnitude. -/
def largest (Y : FVec Ideal S4096x8192 .f32) : FVec Ideal S_ .f32 :=
  Host.reduce FloatOps.maximumf (Host.absf (relu Y)) (constant (F := Ideal) S_ .f32 0xFF800000#32) reducesTo_S4096x8192_S_d0_1 h_S_
/-- The quantiser's step. -/
def scale (A : FVec Ideal S_ .f32) : FVec Ideal S_ .f32 :=
  Host.divf (maximumf A (constant S_ .f32 0x0DA24260#32)) (constant S_ .f32 0x42FE0000#32)
/-- The quantised array. -/
def quantised (Y : FVec Ideal S4096x8192 .f32) (s : FVec Ideal S_ .f32) : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (relu Y) (broadcastInDim S4096x8192 ![] bcast_S_S4096x8192 s)))))
    (broadcastInDim S4096x8192 ![] bcast_S_S4096x8192 s)
/-- The reference's result. -/
def result (X : WholeX) (W : WholeW) : FVec Ideal S4096x8192 .f32 := quantised (prod X W) (scale (largest (prod X W)))

/-- The product, entry by entry. -/
theorem prod_at (X : WholeX) (W : WholeW) (r : Fin 4096) (n : Fin 8192) : prod X W (ix2 r n) = dotAt X W r n :=
  StackMember.dotGeneral_plain_apply (φ₁ := .f32) (φ₂ := .f32) (m := 4096) (k := 4096) (n := 8192) none (extf .f32 (X : FVec Ideal S4096x4096 .bf16) bitsLt_bf16_f32 : FVec Ideal S4096x4096 .f32) W r n

/-- The clipped product, entry by entry. -/
theorem relu_at (Y : FVec Ideal S4096x8192 .f32) (i : S4096x8192.Idx) : (relu Y i : EReal) = max (Y i : EReal) (Ideal.ofBits .f32 0x00000000#32) := rfl

/-- A number bounds the largest magnitude when it bounds zero and the product. -/
theorem largest_le (Y : FVec Ideal S4096x8192 .f32) (z : EReal) : (largest Y ix0 : EReal) ≤ z ↔ 0 ≤ z ∧ ∀ (r : Fin 4096) (n : Fin 8192), (Y (ix2 r n) : EReal) ≤ z := by
  have hm := Host.reduce_eq_fold (FloatOps.maximumf (F := Ideal) (φ := .f32)) (Host.absf (relu Y)) (constant (F := Ideal) S_ .f32 0xFF800000#32)
    reducesTo_S4096x8192_S_d0_1 h_S_ ix0
  refine (iff_of_eq (congrArg (fun y : EReal => y ≤ z) hm)).trans ?_
  refine (Finset.fold_max_le (b := (Ideal.ofBits .f32 0xFF800000#32 : EReal)) z).trans ?_
  rw [ofBits_bot]
  have he : ∀ i, (Host.absf (relu Y) i : EReal) ≤ z ↔ 0 ≤ z ∧ (Y i : EReal) ≤ z := fun i => by
    have ha : (Host.absf (relu Y) i : EReal) = max (max (Y i : EReal) 0) (-(max (Y i : EReal) 0)) :=
      (show (Host.absf (relu Y) i : EReal) = max (relu Y i : EReal) (-(relu Y i : EReal)) from rfl).trans (by rw [relu_at, Ideal.ofBits_zero_f32])
    have h0 : -(max (Y i : EReal) 0) ≤ max (Y i : EReal) 0 :=
      (EReal.neg_le_neg_iff.mpr (le_max_right _ _)).trans (by rw [neg_zero]; exact le_max_right _ _)
    rw [ha, max_eq_left h0, max_le_iff, and_comm]
  constructor
  · rintro ⟨-, h⟩
    have h' := fun i => (he i).mp (h i (Finset.mem_filter.mpr ⟨Finset.mem_univ _, funext fun a => a.elim0⟩))
    exact ⟨(h' (ix2 0 0)).1, fun r n => (h' _).2⟩
  · rintro ⟨h0, h⟩
    refine ⟨bot_le, fun i _ => (he i).mpr ⟨h0, ?_⟩⟩
    rw [eq_ix2 i]; exact h _ _

/-- The step is the largest magnitude's. -/
theorem scale_at (A : FVec Ideal S_ .f32) : (scale A ix0 : EReal) = stepOf (A ix0) := rfl

/-- The quantised array, entry by entry. -/
theorem quantised_at (Y : FVec Ideal S4096x8192 .f32) (s : FVec Ideal S_ .f32) (i : S4096x8192.Idx) : (quantised Y s i : EReal) = quantAt (s ix0) (Y i) := by
  have hb : ∀ x : FVec Ideal S_ .f32, broadcastInDim S4096x8192 ![] bcast_S_S4096x8192 x i = x ix0 := fun x => broadcastInDim_scalar_apply _ _ _
  have hq : (quantised Y s i : EReal) = min (broadcastInDim S4096x8192 ![] bcast_S_S4096x8192 (constant (F := Ideal) S_ .f32 0x42FE0000#32) i : EReal)
      (max (broadcastInDim S4096x8192 ![] bcast_S_S4096x8192 (constant (F := Ideal) S_ .f32 0xC2FE0000#32) i : EReal)
        (Ideal.liftRound Ideal.roundHalfEven (Ideal.div (relu Y i) (broadcastInDim S4096x8192 ![] bcast_S_S4096x8192 s i))))
      * (broadcastInDim S4096x8192 ![] bcast_S_S4096x8192 s i : EReal) := rfl
  rw [hq, hb, hb, hb, relu_at]
  rfl

/-- The reference's result, entry by entry. -/
theorem result_at (X : WholeX) (W : WholeW) (r : Fin 4096) (n : Fin 8192) :
    (result X W (ix2 r n) : EReal) = quantAt (stepOf (largest (prod X W) ix0)) (dotAt X W r n) := by
  unfold result
  rw [quantised_at, scale_at, prod_at]

end

/-! ## The kernel -/

section

open Cert.KernelIdeal Cert.KernelIdeal.Gen Cert.KernelIdeal.Exchange

variable {m : (ℓ : Loc nD τ sig) → Buf (Elt Ideal) ℓ} {ρ : Dev nD → PrngReg} {X : WholeX} {W : WholeW}

/-- A quantised tile, entry by entry. -/
theorem quant_at (s : EReal) (t : Vec Ideal S1024x1024 .f32) (i : S1024x1024.Idx) : (quant (F := Ideal) s t i : EReal) = quantAt s (t i) := by
  unfold quant
  rw [shapeCast_self]
  rfl

/-- The agreed maximum is the whole product's largest magnitude after clipping. -/
theorem gmax_eq (H : Holds m ρ X W) (c : Dev nD) : (gmax m ρ c : EReal) = largest (prod X W) ix0 :=
  eq_of_forall_ge_iff fun z => (gmax_le H c z).trans ((largest_le (prod X W) z).trans (by simp only [prod_at])).symm

/-- The step is that maximum's. -/
theorem qscale_eq (c : Dev nD) : (qscale m ρ c : EReal) = stepOf (gmax m ρ c) := by
  unfold qscale stepOf
  rw [max_of]
  rfl

/-- A column block of the kernel's result, entry by entry. -/
theorem outTile_at (H : Holds m ρ X W) (c : Dev nD) (n : Fin 8) (i j : Fin 1024) :
    (outTile m ρ c n (ix2 i j) : EReal) = result X W (ix2 (at4 c i) (at8 n j)) := by
  unfold outTile
  rw [quant_at, acc_at H, qscale_eq, gmax_eq H, result_at]

/-- What a device's kernel writes is its rows of the reference's result. -/
theorem outAt_eq (H : Holds m ρ X W) (c : Dev nD) :
    outAt m ρ c = Layout.block ⟨2, ![1024, 8192]⟩ ⟨2, ![4096, 8192]⟩ 0 4 c (result X W) := by
  funext p
  have hp1 : (p 1).val < 8192 := (p 1).isLt
  let n : Fin 8 := ⟨(p 1).val / 1024, by omega⟩
  let j : Fin 1024 := ⟨(p 1).val % 1024, Nat.mod_lt _ (by decide)⟩
  have h := oBuf_at (outTile m ρ c) n p (ix2 (p 0) j) rfl (by
    show (p 1).val = 1024 * ((p 1).val / 1024) + (p 1).val % 1024
    omega)
  refine h.trans ((outTile_at H c n (p 0) j).trans (congrArg (result X W) (funext fun a => ?_)))
  match a with
  | 0 => exact Fin.ext (by show 1024 * c.val + (p 0).val = c.val * 1024 + (p 0).val; omega)
  | 1 => exact Fin.ext (by show 1024 * ((p 1).val / 1024) + (p 1).val % 1024 = (p 1).val; omega)

end

end Cert.Entry

end
-- ==== Proof.Agree.lean ====
/-
  The kernel on four devices and the reference on one agree at exact arithmetic.
-/
module

public import proofs.«01_k».proof.Proof.Frames
public import proofs.«01_k».proof.Proof.Entry

@[expose] public section

noncomputable section

namespace Cert.Entry

open Idealize.ShloMosaic Idealize.ShloMosaic.TcCoe Idealize.SL.Sem
open Cert.KernelIdeal.Exchange (WholeX WholeW Holds xstg_eq finalA_x finalA_out run_main)

/-- The reference's run ends with its result and its arguments as they were. -/
theorem reference_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v13)
          = result (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
        ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run _ _ _).mono (fun _ h => ⟨(h 0).1, (h 0).2⟩) (Cert.ReferenceIdeal.Value.run m' g')

/-- From launches that hold one `x` and one `w`, each device's result is its rows of the reference's. -/
theorem agree : Cert.algebraic_KernelIdeal_ReferenceIdeal (hKernelIdeal := Cert.KernelIdeal.Gen.facts) (hReferenceIdeal := Cert.ReferenceIdeal.Gen.facts) := by
  intro m g m' g' _ hin
  have H : Holds m g (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (xstg_eq m g c).trans (hin c).1, fun c => (hin c).2⟩
  refine ⟨_, (θ_run _ _ _).mono (fun r h c => ?_) (run_main m g), reference_run m' g'⟩
  exact ⟨((h.1 c).1 (1 : Fin 2)).trans ((finalA_out m g c).trans (outAt_eq H c)), ((h.1 c).1 (0 : Fin 2)).trans (finalA_x m g c), (h.1 c).2⟩

end Cert.Entry

end
-- ==== Proof.lean ====
/-
  The certificate: the kernel's frame at both kinds of float, the reference's frame, and their agreement at exact arithmetic.
-/
module

public import proofs.«01_k».proof.Defs
public import proofs.«01_k».proof.Proof.Frames
public import proofs.«01_k».proof.Proof.Agree

@[expose] public section

noncomputable section

namespace Cert.Proof

/-- Everything claimed. -/
theorem claim : Cert.Claim :=
  ⟨Cert.Kernel.Gen.facts, Cert.KernelIdeal.Gen.facts, Cert.ReferenceIdeal.Gen.facts,
    Cert.Frames.kernel, Cert.Frames.kernelIdeal, Cert.Frames.referenceIdeal, trivial, Cert.Entry.agree⟩

end Cert.Proof

end
